-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![64, 128, 256]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S256x128 : Shape := ⟨2, ![256, 128]⟩
abbrev S128x64 : Shape := ⟨2, ![128, 64]⟩
abbrev S256x1 : Shape := ⟨2, ![256, 1]⟩
abbrev S2x128x256 : Shape := ⟨3, ![2, 128, 256]⟩
abbrev S_ : Shape := ⟨0, ![]⟩

class Facts : Prop where
  bcast_S_S256x1 : S_.BroadcastsInDim S256x1 (![] : Fin 0 → Fin S256x1.rank)
  reducesTo_S256x1_S_d0_1 : S256x1.ReducesTo [0, 1] S_
  h_S_ : 0 < S_.numel

variable [Facts]

def fn {F : FTy → Type} [FloatOps F] (main_arg0 : FVec F S256x128 .bf16) (main_arg1 : FVec F S128x64 .bf16) (main_arg2 : IVec S256x1 32) (main_arg3 : FVec F S2x128x256 .bf16) : IVec S_ 1 :=
  let main_c : IVec S_ 32 := constantI S_ 32 0#32
  let main_v0 : IVec S256x1 32 := broadcastInDim S256x1 ![] bcast_S_S256x1 main_c
  let main_v1 : IVec S256x1 1 := cmpi .sge main_arg2 main_v0
  let main_c_0 : IVec S_ 32 := constantI S_ 32 64#32
  let main_v2 : IVec S256x1 32 := broadcastInDim S256x1 ![] bcast_S_S256x1 main_c_0
  let main_v3 : IVec S256x1 1 := cmpi .slt main_arg2 main_v2
  let main_v4 : IVec S256x1 1 := andi main_v1 main_v3
  let main_c_1 : IVec S_ 1 := constantI S_ 1 1#1
  let main_v5 : IVec S_ 1 := (fun x v => Host.reduce IntOp.andi x v reducesTo_S256x1_S_d0_1 h_S_) main_v4 main_c_1
  main_v5
-- ==== Pre_in_range_ReferenceIdeal.lean ====
abbrev S256x128 : Shape := ⟨2, ![256, 128]⟩
abbrev S128x64 : Shape := ⟨2, ![128, 64]⟩
abbrev S256x1 : Shape := ⟨2, ![256, 1]⟩
abbrev S64x128x256 : Shape := ⟨3, ![64, 128, 256]⟩
abbrev S_ : Shape := ⟨0, ![]⟩

class Facts : Prop where
  bcast_S_S256x1 : S_.BroadcastsInDim S256x1 (![] : Fin 0 → Fin S256x1.rank)
  reducesTo_S256x1_S_d0_1 : S256x1.ReducesTo [0, 1] S_
  h_S_ : 0 < S_.numel

variable [Facts]

def fn {F : FTy → Type} [FloatOps F] (main_arg0 : FVec F S256x128 .bf16) (main_arg1 : FVec F S128x64 .bf16) (main_arg2 : IVec S256x1 32) (main_arg3 : FVec F S64x128x256 .bf16) : IVec S_ 1 :=
  let main_c : IVec S_ 32 := constantI S_ 32 0#32
  let main_v0 : IVec S256x1 32 := broadcastInDim S256x1 ![] bcast_S_S256x1 main_c
  let main_v1 : IVec S256x1 1 := cmpi .sge main_arg2 main_v0
  let main_c_0 : IVec S_ 32 := constantI S_ 32 64#32
  let main_v2 : IVec S256x1 32 := broadcastInDim S256x1 ![] bcast_S_S256x1 main_c_0
  let main_v3 : IVec S256x1 1 := cmpi .slt main_arg2 main_v2
  let main_v4 : IVec S256x1 1 := andi main_v1 main_v3
  let main_c_1 : IVec S_ 1 := constantI S_ 1 1#1
  let main_v5 : IVec S_ 1 := (fun x v => Host.reduce IntOp.andi x v reducesTo_S256x1_S_d0_1 h_S_) main_v4 main_c_1
  main_v5
-- ==== Kernel.lean ====
abbrev S256x128 : Shape := ⟨2, ![256, 128]⟩
abbrev S128x64 : Shape := ⟨2, ![128, 64]⟩
abbrev S256x1 : Shape := ⟨2, ![256, 1]⟩
abbrev S2x128x256 : Shape := ⟨3, ![2, 128, 256]⟩
abbrev S256x256 : Shape := ⟨2, ![256, 256]⟩
abbrev S8x256 : Shape := ⟨2, ![8, 256]⟩
abbrev S31 : Shape := ⟨1, ![31]⟩
abbrev S_ : Shape := ⟨0, ![]⟩
abbrev S256x2 : Shape := ⟨2, ![256, 2]⟩
abbrev S1x128x256 : Shape := ⟨3, ![1, 128, 256]⟩
abbrev S128x256 : Shape := ⟨2, ![128, 256]⟩
abbrev S256x8 : Shape := ⟨2, ![256, 8]⟩
abbrev S1 : Shape := ⟨1, ![1]⟩
abbrev S256x64 : Shape := ⟨2, ![256, 64]⟩
abbrev S256 : Shape := ⟨1, ![256]⟩

abbrev nBuf : Space → Nat
  | .hbm => 5
  | .vmem => 6
  | .smem => 0
  | _ => 0

abbrev bufTy : (tb : Table) → Fin (tcTables nBuf tb) → BufTy
  | .hbm, ⟨0, _⟩ => ⟨S256x128, .bf16⟩
  | .hbm, ⟨1, _⟩ => ⟨S128x64, .bf16⟩
  | .hbm, ⟨2, _⟩ => ⟨S256x1, .i32⟩
  | .hbm, ⟨3, _⟩ => ⟨S2x128x256, .bf16⟩
  | .hbm, ⟨4, _⟩ => ⟨S256x256, .bf16⟩
  | .local _ .vmem, ⟨0, _⟩ => ⟨S256x128, .bf16⟩
  | .local _ .vmem, ⟨1, _⟩ => ⟨S256x1, .i32⟩
  | .local _ .vmem, ⟨2, _⟩ => ⟨S2x128x256, .bf16⟩
  | .local _ .vmem, ⟨3, _⟩ => ⟨S256x256, .bf16⟩
  | .local _ .vmem, ⟨4, _⟩ => ⟨S256x256, .bf16⟩
  | .local _ .vmem, ⟨5, _⟩ => ⟨S8x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_141 : BitVec 32 := 8#32
  let v197 : BitVec 32 := Scalar.muli v2 c8_i32_141
  let v198 : Index := Scalar.indexCast v197
  let c0_142 : Index := 0#32
  ![v198.toNat, 0]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_146 : BitVec 32 := 8#32
  let v204 : BitVec 32 := Scalar.muli v2 c8_i32_146
  let c0_i32_151 : BitVec 32 := 0#32
  ![v204.toNat, 0]
def k0_dev32 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_144 : BitVec 32 := 1#32
  let v202 : BitVec 32 := Scalar.addi v2 c1_i32_144
  let c32_i32_145 : BitVec 32 := 32#32
  let v203 : BitVec 32 := Scalar.remsi v202 c32_i32_145
  let c1_i32_149 : BitVec 32 := 1#32
  let v205 : BitVec 32 := Scalar.muli v203 c1_i32_149
  let v206 : BitVec 32 := Scalar.addi c0_i32_150 v205
  v206.toNat
def k0_dev33 (d0 : Dev nD) : Nat :=
  let c0_i32_158 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_152 : BitVec 32 := 2#32
  let v212 : BitVec 32 := Scalar.addi v2 c2_i32_152
  let c32_i32_153 : BitVec 32 := 32#32
  let v213 : BitVec 32 := Scalar.remsi v212 c32_i32_153
  let c1_i32_157 : BitVec 32 := 1#32
  let v215 : BitVec 32 := Scalar.muli v213 c1_i32_157
  let v216 : BitVec 32 := Scalar.addi c0_i32_158 v215
  v216.toNat
def k0_dev34 (d0 : Dev nD) : Nat :=
  let c0_i32_166 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_160 : BitVec 32 := 3#32
  let v222 : BitVec 32 := Scalar.addi v2 c3_i32_160
  let c32_i32_161 : BitVec 32 := 32#32
  let v223 : BitVec 32 := Scalar.remsi v222 c32_i32_161
  let c1_i32_165 : BitVec 32 := 1#32
  let v225 : BitVec 32 := Scalar.muli v223 c1_i32_165
  let v226 : BitVec 32 := Scalar.addi c0_i32_166 v225
  v226.toNat
def k0_dev35 (d0 : Dev nD) : Nat :=
  let c0_i32_174 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_168 : BitVec 32 := 4#32
  let v232 : BitVec 32 := Scalar.addi v2 c4_i32_168
  let c32_i32_169 : BitVec 32 := 32#32
  let v233 : BitVec 32 := Scalar.remsi v232 c32_i32_169
  let c1_i32_173 : BitVec 32 := 1#32
  let v235 : BitVec 32 := Scalar.muli v233 c1_i32_173
  let v236 : BitVec 32 := Scalar.addi c0_i32_174 v235
  v236.toNat
def k0_dev36 (d0 : Dev nD) : Nat :=
  let c0_i32_182 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_176 : BitVec 32 := 5#32
  let v242 : BitVec 32 := Scalar.addi v2 c5_i32_176
  let c32_i32_177 : BitVec 32 := 32#32
  let v243 : BitVec 32 := Scalar.remsi v242 c32_i32_177
  let c1_i32_181 : BitVec 32 := 1#32
  let v245 : BitVec 32 := Scalar.muli v243 c1_i32_181
  let v246 : BitVec 32 := Scalar.addi c0_i32_182 v245
  v246.toNat
def k0_dev37 (d0 : Dev nD) : Nat :=
  let c0_i32_190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_184 : BitVec 32 := 6#32
  let v252 : BitVec 32 := Scalar.addi v2 c6_i32_184
  let c32_i32_185 : BitVec 32 := 32#32
  let v253 : BitVec 32 := Scalar.remsi v252 c32_i32_185
  let c1_i32_189 : BitVec 32 := 1#32
  let v255 : BitVec 32 := Scalar.muli v253 c1_i32_189
  let v256 : BitVec 32 := Scalar.addi c0_i32_190 v255
  v256.toNat
def k0_dev38 (d0 : Dev nD) : Nat :=
  let c0_i32_198 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_192 : BitVec 32 := 7#32
  let v262 : BitVec 32 := Scalar.addi v2 c7_i32_192
  let c32_i32_193 : BitVec 32 := 32#32
  let v263 : BitVec 32 := Scalar.remsi v262 c32_i32_193
  let c1_i32_197 : BitVec 32 := 1#32
  let v265 : BitVec 32 := Scalar.muli v263 c1_i32_197
  let v266 : BitVec 32 := Scalar.addi c0_i32_198 v265
  v266.toNat
def k0_dev39 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_200 : BitVec 32 := 8#32
  let v272 : BitVec 32 := Scalar.addi v2 c8_i32_200
  let c32_i32_201 : BitVec 32 := 32#32
  let v273 : BitVec 32 := Scalar.remsi v272 c32_i32_201
  let c1_i32_205 : BitVec 32 := 1#32
  let v275 : BitVec 32 := Scalar.muli v273 c1_i32_205
  let v276 : BitVec 32 := Scalar.addi c0_i32_206 v275
  v276.toNat
def k0_dev40 (d0 : Dev nD) : Nat :=
  let c0_i32_214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_208 : BitVec 32 := 9#32
  let v282 : BitVec 32 := Scalar.addi v2 c9_i32_208
  let c32_i32_209 : BitVec 32 := 32#32
  let v283 : BitVec 32 := Scalar.remsi v282 c32_i32_209
  let c1_i32_213 : BitVec 32 := 1#32
  let v285 : BitVec 32 := Scalar.muli v283 c1_i32_213
  let v286 : BitVec 32 := Scalar.addi c0_i32_214 v285
  v286.toNat
def k0_dev41 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_216 : BitVec 32 := 10#32
  let v292 : BitVec 32 := Scalar.addi v2 c10_i32_216
  let c32_i32_217 : BitVec 32 := 32#32
  let v293 : BitVec 32 := Scalar.remsi v292 c32_i32_217
  let c1_i32_221 : BitVec 32 := 1#32
  let v295 : BitVec 32 := Scalar.muli v293 c1_i32_221
  let v296 : BitVec 32 := Scalar.addi c0_i32_222 v295
  v296.toNat
def k0_dev42 (d0 : Dev nD) : Nat :=
  let c0_i32_230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_224 : BitVec 32 := 11#32
  let v302 : BitVec 32 := Scalar.addi v2 c11_i32_224
  let c32_i32_225 : BitVec 32 := 32#32
  let v303 : BitVec 32 := Scalar.remsi v302 c32_i32_225
  let c1_i32_229 : BitVec 32 := 1#32
  let v305 : BitVec 32 := Scalar.muli v303 c1_i32_229
  let v306 : BitVec 32 := Scalar.addi c0_i32_230 v305
  v306.toNat
def k0_dev43 (d0 : Dev nD) : Nat :=
  let c0_i32_238 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_232 : BitVec 32 := 12#32
  let v312 : BitVec 32 := Scalar.addi v2 c12_i32_232
  let c32_i32_233 : BitVec 32 := 32#32
  let v313 : BitVec 32 := Scalar.remsi v312 c32_i32_233
  let c1_i32_237 : BitVec 32 := 1#32
  let v315 : BitVec 32 := Scalar.muli v313 c1_i32_237
  let v316 : BitVec 32 := Scalar.addi c0_i32_238 v315
  v316.toNat
def k0_dev44 (d0 : Dev nD) : Nat :=
  let c0_i32_246 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_240 : BitVec 32 := 13#32
  let v322 : BitVec 32 := Scalar.addi v2 c13_i32_240
  let c32_i32_241 : BitVec 32 := 32#32
  let v323 : BitVec 32 := Scalar.remsi v322 c32_i32_241
  let c1_i32_245 : BitVec 32 := 1#32
  let v325 : BitVec 32 := Scalar.muli v323 c1_i32_245
  let v326 : BitVec 32 := Scalar.addi c0_i32_246 v325
  v326.toNat
def k0_dev45 (d0 : Dev nD) : Nat :=
  let c0_i32_254 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_248 : BitVec 32 := 14#32
  let v332 : BitVec 32 := Scalar.addi v2 c14_i32_248
  let c32_i32_249 : BitVec 32 := 32#32
  let v333 : BitVec 32 := Scalar.remsi v332 c32_i32_249
  let c1_i32_253 : BitVec 32 := 1#32
  let v335 : BitVec 32 := Scalar.muli v333 c1_i32_253
  let v336 : BitVec 32 := Scalar.addi c0_i32_254 v335
  v336.toNat
def k0_dev46 (d0 : Dev nD) : Nat :=
  let c0_i32_262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_256 : BitVec 32 := 15#32
  let v342 : BitVec 32 := Scalar.addi v2 c15_i32_256
  let c32_i32_257 : BitVec 32 := 32#32
  let v343 : BitVec 32 := Scalar.remsi v342 c32_i32_257
  let c1_i32_261 : BitVec 32 := 1#32
  let v345 : BitVec 32 := Scalar.muli v343 c1_i32_261
  let v346 : BitVec 32 := Scalar.addi c0_i32_262 v345
  v346.toNat
def k0_dev47 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_264 : BitVec 32 := 16#32
  let v352 : BitVec 32 := Scalar.addi v2 c16_i32_264
  let c32_i32_265 : BitVec 32 := 32#32
  let v353 : BitVec 32 := Scalar.remsi v352 c32_i32_265
  let c1_i32_269 : BitVec 32 := 1#32
  let v355 : BitVec 32 := Scalar.muli v353 c1_i32_269
  let v356 : BitVec 32 := Scalar.addi c0_i32_270 v355
  v356.toNat
def k0_dev48 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_272 : BitVec 32 := 17#32
  let v362 : BitVec 32 := Scalar.addi v2 c17_i32_272
  let c32_i32_273 : BitVec 32 := 32#32
  let v363 : BitVec 32 := Scalar.remsi v362 c32_i32_273
  let c1_i32_277 : BitVec 32 := 1#32
  let v365 : BitVec 32 := Scalar.muli v363 c1_i32_277
  let v366 : BitVec 32 := Scalar.addi c0_i32_278 v365
  v366.toNat
def k0_dev49 (d0 : Dev nD) : Nat :=
  let c0_i32_286 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_280 : BitVec 32 := 18#32
  let v372 : BitVec 32 := Scalar.addi v2 c18_i32_280
  let c32_i32_281 : BitVec 32 := 32#32
  let v373 : BitVec 32 := Scalar.remsi v372 c32_i32_281
  let c1_i32_285 : BitVec 32 := 1#32
  let v375 : BitVec 32 := Scalar.muli v373 c1_i32_285
  let v376 : BitVec 32 := Scalar.addi c0_i32_286 v375
  v376.toNat
def k0_dev50 (d0 : Dev nD) : Nat :=
  let c0_i32_294 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_288 : BitVec 32 := 19#32
  let v382 : BitVec 32 := Scalar.addi v2 c19_i32_288
  let c32_i32_289 : BitVec 32 := 32#32
  let v383 : BitVec 32 := Scalar.remsi v382 c32_i32_289
  let c1_i32_293 : BitVec 32 := 1#32
  let v385 : BitVec 32 := Scalar.muli v383 c1_i32_293
  let v386 : BitVec 32 := Scalar.addi c0_i32_294 v385
  v386.toNat
def k0_dev51 (d0 : Dev nD) : Nat :=
  let c0_i32_302 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_296 : BitVec 32 := 20#32
  let v392 : BitVec 32 := Scalar.addi v2 c20_i32_296
  let c32_i32_297 : BitVec 32 := 32#32
  let v393 : BitVec 32 := Scalar.remsi v392 c32_i32_297
  let c1_i32_301 : BitVec 32 := 1#32
  let v395 : BitVec 32 := Scalar.muli v393 c1_i32_301
  let v396 : BitVec 32 := Scalar.addi c0_i32_302 v395
  v396.toNat
def k0_dev52 (d0 : Dev nD) : Nat :=
  let c0_i32_310 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_304 : BitVec 32 := 21#32
  let v402 : BitVec 32 := Scalar.addi v2 c21_i32_304
  let c32_i32_305 : BitVec 32 := 32#32
  let v403 : BitVec 32 := Scalar.remsi v402 c32_i32_305
  let c1_i32_309 : BitVec 32 := 1#32
  let v405 : BitVec 32 := Scalar.muli v403 c1_i32_309
  let v406 : BitVec 32 := Scalar.addi c0_i32_310 v405
  v406.toNat
def k0_dev53 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_312 : BitVec 32 := 22#32
  let v412 : BitVec 32 := Scalar.addi v2 c22_i32_312
  let c32_i32_313 : BitVec 32 := 32#32
  let v413 : BitVec 32 := Scalar.remsi v412 c32_i32_313
  let c1_i32_317 : BitVec 32 := 1#32
  let v415 : BitVec 32 := Scalar.muli v413 c1_i32_317
  let v416 : BitVec 32 := Scalar.addi c0_i32_318 v415
  v416.toNat
def k0_dev54 (d0 : Dev nD) : Nat :=
  let c0_i32_326 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_320 : BitVec 32 := 23#32
  let v422 : BitVec 32 := Scalar.addi v2 c23_i32_320
  let c32_i32_321 : BitVec 32 := 32#32
  let v423 : BitVec 32 := Scalar.remsi v422 c32_i32_321
  let c1_i32_325 : BitVec 32 := 1#32
  let v425 : BitVec 32 := Scalar.muli v423 c1_i32_325
  let v426 : BitVec 32 := Scalar.addi c0_i32_326 v425
  v426.toNat
def k0_dev55 (d0 : Dev nD) : Nat :=
  let c0_i32_334 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_328 : BitVec 32 := 24#32
  let v432 : BitVec 32 := Scalar.addi v2 c24_i32_328
  let c32_i32_329 : BitVec 32 := 32#32
  let v433 : BitVec 32 := Scalar.remsi v432 c32_i32_329
  let c1_i32_333 : BitVec 32 := 1#32
  let v435 : BitVec 32 := Scalar.muli v433 c1_i32_333
  let v436 : BitVec 32 := Scalar.addi c0_i32_334 v435
  v436.toNat
def k0_dev56 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_336 : BitVec 32 := 25#32
  let v442 : BitVec 32 := Scalar.addi v2 c25_i32_336
  let c32_i32_337 : BitVec 32 := 32#32
  let v443 : BitVec 32 := Scalar.remsi v442 c32_i32_337
  let c1_i32_341 : BitVec 32 := 1#32
  let v445 : BitVec 32 := Scalar.muli v443 c1_i32_341
  let v446 : BitVec 32 := Scalar.addi c0_i32_342 v445
  v446.toNat
def k0_dev57 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_344 : BitVec 32 := 26#32
  let v452 : BitVec 32 := Scalar.addi v2 c26_i32_344
  let c32_i32_345 : BitVec 32 := 32#32
  let v453 : BitVec 32 := Scalar.remsi v452 c32_i32_345
  let c1_i32_349 : BitVec 32 := 1#32
  let v455 : BitVec 32 := Scalar.muli v453 c1_i32_349
  let v456 : BitVec 32 := Scalar.addi c0_i32_350 v455
  v456.toNat
def k0_dev58 (d0 : Dev nD) : Nat :=
  let c0_i32_358 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_352 : BitVec 32 := 27#32
  let v462 : BitVec 32 := Scalar.addi v2 c27_i32_352
  let c32_i32_353 : BitVec 32 := 32#32
  let v463 : BitVec 32 := Scalar.remsi v462 c32_i32_353
  let c1_i32_357 : BitVec 32 := 1#32
  let v465 : BitVec 32 := Scalar.muli v463 c1_i32_357
  let v466 : BitVec 32 := Scalar.addi c0_i32_358 v465
  v466.toNat
def k0_dev59 (d0 : Dev nD) : Nat :=
  let c0_i32_366 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_360 : BitVec 32 := 28#32
  let v472 : BitVec 32 := Scalar.addi v2 c28_i32_360
  let c32_i32_361 : BitVec 32 := 32#32
  let v473 : BitVec 32 := Scalar.remsi v472 c32_i32_361
  let c1_i32_365 : BitVec 32 := 1#32
  let v475 : BitVec 32 := Scalar.muli v473 c1_i32_365
  let v476 : BitVec 32 := Scalar.addi c0_i32_366 v475
  v476.toNat
def k0_dev60 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_368 : BitVec 32 := 29#32
  let v482 : BitVec 32 := Scalar.addi v2 c29_i32_368
  let c32_i32_369 : BitVec 32 := 32#32
  let v483 : BitVec 32 := Scalar.remsi v482 c32_i32_369
  let c1_i32_373 : BitVec 32 := 1#32
  let v485 : BitVec 32 := Scalar.muli v483 c1_i32_373
  let v486 : BitVec 32 := Scalar.addi c0_i32_374 v485
  v486.toNat
def k0_dev61 (d0 : Dev nD) : Nat :=
  let c0_i32_382 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_376 : BitVec 32 := 30#32
  let v492 : BitVec 32 := Scalar.addi v2 c30_i32_376
  let c32_i32_377 : BitVec 32 := 32#32
  let v493 : BitVec 32 := Scalar.remsi v492 c32_i32_377
  let c1_i32_381 : BitVec 32 := 1#32
  let v495 : BitVec 32 := Scalar.muli v493 c1_i32_381
  let v496 : BitVec 32 := Scalar.addi c0_i32_382 v495
  v496.toNat
def k0_dev62 (d0 : Dev nD) : Nat :=
  let c0_i32_390 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_384 : BitVec 32 := 31#32
  let v502 : BitVec 32 := Scalar.addi v2 c31_i32_384
  let c32_i32_385 : BitVec 32 := 32#32
  let v503 : BitVec 32 := Scalar.remsi v502 c32_i32_385
  let c1_i32_389 : BitVec 32 := 1#32
  let v505 : BitVec 32 := Scalar.muli v503 c1_i32_389
  let v506 : BitVec 32 := Scalar.addi c0_i32_390 v505
  v506.toNat
def k0_off3 (d0 : Dev nD) (c31_i32_401 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v544 : BitVec 32 := Scalar.addi v2 c31_i32_401
  let c32_i32_402 : BitVec 32 := 32#32
  let v545 : BitVec 32 := Scalar.remsi v544 c32_i32_402
  let c8_i32_403 : BitVec 32 := 8#32
  let v546 : BitVec 32 := Scalar.muli v545 c8_i32_403
  let c0_i32_408 : BitVec 32 := 0#32
  ![v546.toNat, 0]
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x128 : Shape := ⟨2, ![256, 128]⟩
abbrev S128x64 : Shape := ⟨2, ![128, 64]⟩
abbrev S256x1 : Shape := ⟨2, ![256, 1]⟩
abbrev S64x128x256 : Shape := ⟨3, ![64, 128, 256]⟩
abbrev S256 : Shape := ⟨1, ![256]⟩
abbrev S1x256 : Shape := ⟨2, ![1, 256]⟩
abbrev S256x256 : Shape := ⟨2, ![256, 256]⟩
abbrev S_ : Shape := ⟨0, ![]⟩
abbrev S256x128x256 : Shape := ⟨3, ![256, 128, 256]⟩

abbrev nBuf : Space → Nat
  | .hbm => 42
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x64, .bf16⟩
  | .hbm, ⟨2, _⟩ => ⟨S256x1, .i32⟩
  | .hbm, ⟨3, _⟩ => ⟨S64x128x256, .bf16⟩
  | .hbm, ⟨4, _⟩ => ⟨S256, .i32⟩
  | .hbm, ⟨5, _⟩ => ⟨S256, .i32⟩
  | .hbm, ⟨6, _⟩ => ⟨S1x256, .i32⟩
  | .hbm, ⟨7, _⟩ => ⟨S256x1, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S1x256, .i32⟩
  | .hbm, ⟨12, _⟩ => ⟨S256x1, .i32⟩
  | .hbm, ⟨13, _⟩ => ⟨S256x256, .i32⟩
  | .hbm, ⟨14, _⟩ => ⟨S256x256, .i32⟩
  | .hbm, ⟨15, _⟩ => ⟨S256x256, .i1⟩
  | .hbm, ⟨16, _⟩ => ⟨S256x256, .i1⟩
  | .hbm, ⟨17, _⟩ => ⟨S256x256, .i32⟩
  | .hbm, ⟨18, _⟩ => ⟨S_, .i32⟩
  | .hbm, ⟨19, _⟩ => ⟨S256, .i32⟩
  | .hbm, ⟨20, _⟩ => ⟨S64x128x256, .f32⟩
  | .hbm, ⟨21, _⟩ => ⟨S_, .i32⟩
  | .hbm, ⟨22, _⟩ => ⟨S256, .i32⟩
  | .hbm, ⟨23, _⟩ => ⟨S256, .i1⟩
  | .hbm, ⟨24, _⟩ => ⟨S_, .i32⟩
  | .hbm, ⟨25, _⟩ => ⟨S256, .i32⟩
  | .hbm, ⟨26, _⟩ => ⟨S256, .i32⟩
  | .hbm, ⟨27, _⟩ => ⟨S256, .i32⟩
  | .hbm, ⟨28, _⟩ => ⟨S256x1, .i32⟩
  | .hbm, ⟨29, _⟩ => ⟨S256x128x256, .f32⟩
  | .hbm, ⟨30, _⟩ => ⟨S256x128, .f32⟩
  | .hbm, ⟨31, _⟩ => ⟨S256x256, .f32⟩
  | .hbm, ⟨32, _⟩ => ⟨S_, .i32⟩
  | .hbm, ⟨33, _⟩ => ⟨S256, .i32⟩
  | .hbm, ⟨34, _⟩ => ⟨S256, .i1⟩
  | .hbm, ⟨35, _⟩ => ⟨S256x1, .i1⟩
  | .hbm, ⟨36, _⟩ => ⟨S_, .f32⟩
  | .hbm, ⟨37, _⟩ => ⟨S_, .f32⟩
  | .hbm, ⟨38, _⟩ => ⟨S256x256, .i1⟩
  | .hbm, ⟨39, _⟩ => ⟨S256x256, .f32⟩
  | .hbm, ⟨40, _⟩ => ⟨S256x256, .f32⟩
  | .hbm, ⟨41, _⟩ => ⟨S256x256, .bf16⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Proof.Protocol.lean ====
/-
  The protocol of the expert gather: 32 devices, every one of which sends its eight rows of expert outputs to the 31
  others. Who waits, who signals or copies, how much, and what each landing hands over:

  * BARRIER cell of device `c` (the runtime's barrier semaphore): waited for 31 units by `c`, one unit signalled by
    every other device. The unit signalled by `peer c k` hands `c` the eight rows of `peer c k`'s gathered array that
    `c`'s block is to be copied into, at whatever they hold.
  * RECEIVE cell `k` of device `c`: paid by the copy number `k` of the one device `d` with `peer d k = c`; the landing
    hands `c` its rows of block `d`, holding device `d`'s eight rows.
  * SEND cell `k` of device `c`: paid by `c`'s own copy number `k`; it hands back the share of the send buffer that the
    copy read (31 copies read the one buffer at once, each at a share of its own).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.Pipeline.ValueKit.Geometry
public import Idealize.ShloMosaic.Lib.Tactic

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Ghost state -/

/-- The rounds of the gather's cells: duties are named by the 31 copies of a device. -/
abbrev UB : Type := URounds (GSem nD τ sig) (Fin 31)
/-- The pipeline's rounds beside the gather's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Who talks to whom -/

set_option backward.proofsInPublic true in
/-- The device that `c`'s signal, and copy, number `k` goes to. -/
def peer (c : Dev nD) (k : Fin 31) : Dev nD := ⟨(c.val + k.val + 1) % 32, Nat.mod_lt _ (by decide)⟩

/-- Counted the other way round, the 31 others come back to where they started. -/
theorem peer_rev (c : Dev nD) (k : Fin 31) : peer (peer c k) k.rev = c := by
  apply Fin.ext
  have hc : c.val < 32 := c.isLt
  have hk := k.isLt
  simp only [peer, Fin.val_rev]
  omega

theorem peer_rev' (c : Dev nD) (k : Fin 31) : peer (peer c k.rev) k = c := by
  have h := peer_rev c k.rev
  rwa [Fin.rev_rev] at h

/-- Nobody is a peer of itself. -/
theorem peer_ne (c : Dev nD) (k : Fin 31) : peer c k ≠ c := by
  intro h
  have h' := congrArg Fin.val h
  have hc : c.val < 32 := c.isLt
  have hk := k.isLt
  simp only [peer] at h'
  omega

/-- The 31 peers of a device are distinct. -/
theorem peer_inj (c : Dev nD) : Function.Injective (peer c) := by
  intro k k' h
  have h' := congrArg Fin.val h
  have hc : c.val < 32 := c.isLt
  have hk := k.isLt
  have hk' := k'.isLt
  simp only [peer] at h'
  apply Fin.ext
  omega

/-- Every other device is a peer. -/
theorem exists_peer (c d : Dev nD) (h : d ≠ c) : ∃ k, peer c k = d := by
  have hc : c.val < 32 := c.isLt
  have hd : d.val < 32 := d.isLt
  have hne : d.val ≠ c.val := fun e => h (Fin.ext e)
  refine ⟨⟨(d.val + 31 - c.val) % 32, by omega⟩, Fin.ext ?_⟩
  simp only [peer]
  omega

/-- Going on by `k + 1` devices, for each `k` a permutation of the mesh. -/
def around (k : Fin 31) : Dev nD ≃ Dev nD :=
  ⟨fun c => peer c k, fun c => peer c k.rev, fun c => peer_rev c k, fun c => peer_rev' c k⟩

/-! ## The copies still to come, and those done -/

/-- The copies from number `k` on. -/
def later (k : ℕ) : Finset (Fin 31) := Finset.univ.filter fun i => k ≤ i.val
/-- The copies before number `k`. -/
def sofar (k : ℕ) : Finset (Fin 31) := Finset.univ.filter fun i => i.val < k

theorem later_zero : later 0 = Finset.univ := by ext i; simp [later]
theorem later_end : later 31 = ∅ := by ext i; have := i.isLt; simp [later]
theorem sofar_zero : sofar 0 = ∅ := by ext i; simp [sofar]
theorem sofar_end : sofar 31 = Finset.univ := by ext i; have := i.isLt; simp [sofar]
theorem later_succ {k : ℕ} (h : k < 31) : later k = insert ⟨k, h⟩ (later (k + 1)) := by
  ext i; simp only [later, Finset.mem_filter, Finset.mem_univ, true_and, Finset.mem_insert, Fin.ext_iff]; omega
theorem not_mem_later {k : ℕ} (h : k < 31) : (⟨k, h⟩ : Fin 31) ∉ later (k + 1) := by
  simp [later]
theorem sofar_succ {k : ℕ} (h : k < 31) : sofar (k + 1) = insert ⟨k, h⟩ (sofar k) := by
  ext i; simp only [sofar, Finset.mem_filter, Finset.mem_univ, true_and, Finset.mem_insert, Fin.ext_iff]; omega
theorem not_mem_sofar {k : ℕ} (h : k < 31) : (⟨k, h⟩ : Fin 31) ∉ sofar k := by
  simp [sofar]

/-- Taking the next one off what is still to come. -/
theorem bigSep_later {k : ℕ} (h : k < 31) (Φ : Fin 31 → sProp 𝕄) :
    bigSep (later k) Φ = iprop(Φ ⟨k, h⟩ ∗ bigSep (later (k + 1)) Φ) := by
  rw [later_succ h, bigSep_insert (not_mem_later h)]; rfl
/-- Putting it to what is done. -/
theorem bigSep_sofar {k : ℕ} (h : k < 31) (Φ : Fin 31 → sProp 𝕄) :
    bigSep (sofar (k + 1)) Φ = iprop(Φ ⟨k, h⟩ ∗ bigSep (sofar k) Φ) := by
  rw [sofar_succ h, bigSep_insert (not_mem_sofar h)]; rfl

/-! ## Buffers and cells -/

abbrev xM : Memref sig .tc .vmem S256x128 .bf16 := Memref.whole cc0_stg0_0
abbrev iM : Memref sig .tc .vmem S256x1 .i32 := Memref.whole cc0_stg1_0
abbrev wM : Memref sig .tc .vmem S2x128x256 .bf16 := Memref.whole cc0_stg2_0
abbrev oM : Memref sig .tc .vmem S256x256 .bf16 := Memref.whole cc0_stg3_0
/-- The gathered array: 32 blocks of eight rows. -/
abbrev cM : Memref sig .tc .vmem S256x256 .bf16 := Memref.whole cc0_scratch0
/-- The send buffer: a device's own eight rows. -/
abbrev sM : Memref sig .tc .vmem S8x256 .bf16 := Memref.whole cc0_scratch1

/-- The eight rows of device `d` in the gathered array. -/
abbrev blk (d : Dev nD) : Memref sig .tc .vmem S8x256 .bf16 :=
  cM.slice (Rect.unit (s := S256x256) (k0_off2 d) S8x256.size (k0_off2_inb d)) (fun _ => rfl)

theorem inb1 (k : Fin 31) : ∀ a, (![k.val] : Fin 1 → ℕ) a + S1.size a ≤ S31.size a := by
  have := k.isLt
  intro a
  fin_cases a
  show k.val + 1 ≤ 31
  omega

abbrev barS : Sem sig := (SemArray.scalar (sig.barrier 0 rfl) : Sems sig S_).sem
/-- The semaphore that copy `k` pays at its source, and at its destination. -/
abbrev sendS (k : Fin 31) : DmaSem sig :=
  (((cc0_scratch2 : DmaSems sig S31).slice (Rect.unit (s := S31) ![k.val] S1.size (inb1 k))).squeeze S_ squeezes_S1_S_).sem
abbrev recvS (k : Fin 31) : DmaSem sig :=
  (((cc0_scratch3 : DmaSems sig S31).slice (Rect.unit (s := S31) ![k.val] S1.size (inb1 k))).squeeze S_ squeezes_S1_S_).sem

/-- A device's cells: the barrier's, the 31 send cells, the 31 receive cells. -/
abbrev CI : Type := Unit ⊕ (Fin 31 ⊕ Fin 31)
/-- The kernel's own semaphores: send, receive. -/
abbrev osem : Fin 31 ⊕ Fin 31 → SemLoc sig := fun | .inl k => .dma (sendS k) | .inr k => .dma (recvS k)
abbrev csem : CI → SemLoc sig := fun | .inl _ => .reg barS | .inr x => osem x
abbrev kcell (ck : Dev nD × CI) : GSem nD τ sig := ((ck.1 : Thread nD τ), csem ck.2)

abbrev barCell (c : Dev nD) : GSem nD τ sig := kcell (c, .inl ())
abbrev sendCell (c : Dev nD) (k : Fin 31) : GSem nD τ sig := kcell (c, .inr (.inl k))
abbrev recvCell (c : Dev nD) (k : Fin 31) : GSem nD τ sig := kcell (c, .inr (.inr k))

theorem ownSemFacts : Pipeline.OwnSemFacts cfg0.spec osem := by decide +kernel

theorem csem_inj : Function.Injective csem := by
  rintro (⟨⟩ | x) (⟨⟩ | y) h
  · rfl
  · exfalso; rcases y with k | k <;> cases h
  · exfalso; rcases x with k | k <;> cases h
  · exact congrArg Sum.inr (ownSemFacts.inj h)

theorem kcell_inj : Function.Injective (kcell : Dev nD × CI → GSem nD τ sig) := by
  rintro ⟨c, k⟩ ⟨c', k'⟩ h
  have h1 : c = c' := congrArg (fun g : GSem nD τ sig => g.1.1) h
  have h2 : k = k' := csem_inj (congrArg Prod.snd h)
  rw [h1, h2]

open Classical in
/-- Which of a device's cells a semaphore is, if any. -/
def which (sm : SemLoc sig) : Option CI := if h : ∃ i, csem i = sm then some h.choose else none

theorem which_csem (i : CI) : which (csem i) = some i := by
  have h : ∃ j, csem j = csem i := ⟨i, rfl⟩
  unfold which
  rw [dif_pos h]
  exact congrArg some (csem_inj h.choose_spec)

theorem which_none (sm : SemLoc sig) (h : ∀ i, csem i ≠ sm) : which sm = none := by
  unfold which; rw [dif_neg (fun ⟨i, hi⟩ => h i hi)]

/-- The credit of one copy. -/
abbrev N : ℕ := (sM : Memref sig .tc .vmem S8x256 .bf16).view.dmaCredit
theorem N_pos : 0 < N := View.dmaCredit_pos _ (by decide)
theorem blk_credit (d : Dev nD) : (blk d).view.dmaCredit = N := rfl

/-! ## The blocks tile the gathered array -/

/-- The eight rows from an offset `![8 * d, 0]` on are the rows whose number divided by eight is `d`. -/
theorem mem_rows (d : Dev nD) {off : Fin S256x256.rank → ℕ} {inb} (hoff : off = ![8 * d.val, 0]) (i : S256x256.Idx) :
    i ∈ ((View.whole cc0_scratch0).slice (Rect.unit (s := S256x256) off S8x256.size inb)).set ↔ (i 0).val / 8 = d.val := by
  subst hoff
  refine ValueKit.mem_set_slice_whole_iff cc0_scratch0 _ i (Rect.mem_set_unit.trans ?_)
  have h1 : (i 1).val < 256 := (i 1).isLt
  constructor
  · intro h
    have h0 : 8 * d.val ≤ (i 0).val ∧ (i 0).val < 8 * d.val + 8 := h 0
    omega
  · intro h a
    fin_cases a
    · show 8 * d.val ≤ (i 0).val ∧ (i 0).val < 8 * d.val + 8
      omega
    · show 0 ≤ (i 1).val ∧ (i 1).val < 0 + 256
      omega

theorem mem_blk (d : Dev nD) (i : S256x256.Idx) : i ∈ (blk d).view.set ↔ (i 0).val / 8 = d.val :=
  mem_rows d (k0_off2_eq d) i

theorem blk_disjoint (d d' : Dev nD) (h : d ≠ d') : Disjoint (blk d).view.set (blk d').view.set := by
  rw [Finset.disjoint_left]
  intro i hi hi'
  exact h (Fin.ext (((mem_blk d i).mp hi).symm.trans ((mem_blk d' i).mp hi')))

theorem blk_cover : (Finset.univ : Finset (Dev nD)).biUnion (β := S256x256.Idx) (fun d => (blk d).view.set) = Finset.univ := by
  ext i
  simp only [Finset.mem_biUnion, Finset.mem_univ, true_and, iff_true]
  have h0 : (i 0).val < 256 := (i 0).isLt
  exact ⟨⟨(i 0).val / 8, by show _ < 32; omega⟩, (mem_blk _ i).mpr rfl⟩

/-! ## Contents -/

variable (m : (ℓ : Loc nD τ sig) → Buf (Elt F) ℓ)

/-- A device's block of the tokens, of the chosen experts and of the experts' weights, as its windows fetch them. -/
def xAt (c : Dev nD) : (cc0_stg0_0 : Ref sig .tc).ty.Contents (Elt F) :=
  (win0_0.blk (0 : Fin 1)).view.read (Elt F) (m ((c : Thread nD τ).loc main_arg0))
def iAt (c : Dev nD) : (cc0_stg1_0 : Ref sig .tc).ty.Contents (Elt F) :=
  (win0_1.blk (0 : Fin 1)).view.read (Elt F) (m ((c : Thread nD τ).loc main_arg2))
def wAt (c : Dev nD) : (cc0_stg2_0 : Ref sig .tc).ty.Contents (Elt F) :=
  (win0_2.blk (0 : Fin 1)).view.read (Elt F) (m ((c : Thread nD τ).loc main_arg3))

/-- The position of a device, as the kernel computes it. -/
abbrev myWord (c : Dev nD) : BitVec 32 := Scalar.remsi (Scalar.divsi (Dev.word c) 1#32) 32#32

/-- The eight rows that device `c` computes and sends. -/
def rowsAt (c : Dev nD) : S8x256.Idx → Elt F .bf16 :=
  k0_pay13 (k0_pay6 (myWord c) (iAt m c)) (k0_pay7 (myWord c) (iAt m c)) (k0_pay8 (myWord c) (iAt m c))
    (k0_pay9 (myWord c) (iAt m c)) (k0_pay10 (xAt m c)) (k0_pay11 (wAt m c))

/-- The place of an element of the gathered array within its block. -/
def inBlock (i : S256x256.Idx) : S8x256.Idx
  | ⟨0, _⟩ => ⟨(i 0).val % 8, Nat.mod_lt _ (by decide)⟩
  | ⟨1, _⟩ => ⟨(i 1).val, (i 1).isLt⟩

/-- The gathered array, the same on every device: block `d` is what device `d` computed. -/
def gath : (cc0_scratch0 : Ref sig .tc).ty.Contents (Elt F) := fun i =>
  rowsAt m ⟨(i 0).val / 8, by have h0 : (i 0).val < 256 := (i 0).isLt; show _ < 32; omega⟩ (inBlock i)

/-- Eight rows written at block `d`, if they are device `d`'s, are the gathered array there. -/
theorem write_rows (d : Dev nD) {off : Fin S256x256.rank → ℕ} {inb} (hoff : off = ![8 * d.val, 0])
    (f : (cc0_scratch0 : Ref sig .tc).ty.Contents (Elt F)) (i : S256x256.Idx)
    (hi : i ∈ ((View.whole cc0_scratch0).slice (Rect.unit (s := S256x256) off S8x256.size inb)).set) :
    ((View.whole cc0_scratch0).slice (Rect.unit (s := S256x256) off S8x256.size inb)).write (Elt F) f (rowsAt m d) Finset.univ i
      = gath m i := by
  obtain ⟨y, rfl⟩ := View.exists_emb_of_mem_set _ hi
  refine (View.write_emb_of_mem _ _ (Finset.mem_univ y)).trans ?_
  have hy0 : (y 0).val < 8 := (y 0).isLt
  have h0 := ValueKit.view_emb_slice_whole_unit_val cc0_scratch0 off S8x256.size inb y 0
  have h1 := ValueKit.view_emb_slice_whole_unit_val cc0_scratch0 off S8x256.size inb y 1
  have o0 : off 0 = 8 * d.val := by rw [hoff]; rfl
  have o1 : off 1 = 0 := by rw [hoff]; rfl
  rw [o0] at h0
  rw [o1] at h1
  show rowsAt m d y = rowsAt m _ (inBlock _)
  congr 1
  · apply Fin.ext
    show d.val = _ / 8
    rw [h0]; omega
  · funext a
    apply Fin.ext
    fin_cases a
    · show (y 0).val = _ % 8
      rw [h0]; omega
    · exact (Nat.zero_add _).symm.trans h1.symm

/-! ## The schedule -/

/-- Device `c`'s rows of block `d`, holding `f`. -/
def blkPts (c d : Dev nD) (f : Buf (Elt F) ((c : Thread nD τ).loc cc0_scratch0)) : sProp 𝕄 :=
  (c : Thread nD τ).loc cc0_scratch0 ↦[(blk d).view.set]{fullShare} f

/-- What is left of the send buffer when copies have taken their shares. -/
def shr : ℕ → PosShare TreeShare
  | 0 => fullShare
  | n + 1 => (shr n).right

/-- A share of device `c`'s send buffer, holding its rows. -/
def sndPts (c : Dev nD) (q : PosShare TreeShare) : sProp 𝕄 :=
  (c : Thread nD τ).loc cc0_scratch1 ↦[Finset.univ]{q} (rowsAt m c : Buf (Elt F) ((c : Thread nD τ).loc cc0_scratch1))

/-- The unit that `peer c k` signals hands over `peer c k`'s rows of block `c`. -/
def barPay (c : Dev nD) (k : Fin 31) : sProp 𝕄 := iprop(∃ f, blkPts (peer c k) c f)
/-- Copy `k`'s end at its source hands its share of the send buffer back. -/
def sendPay (c : Dev nD) (k : Fin 31) : sProp 𝕄 := sndPts m c (shr k.val).left
/-- The landing of copy `k` hands over the sender's block, holding what the sender computed. -/
def recvPay (c : Dev nD) (k : Fin 31) : sProp 𝕄 := blkPts c (peer c k.rev) (gath m)

instance blkPts_storable (c d : Dev nD) (f) : BI.Storable (upEmb : UEmb _ 𝕄) (blkPts (F := F) c d f) := by unfold blkPts; infer_instance
instance sndPts_storable (c : Dev nD) (q) : BI.Storable (upEmb : UEmb _ 𝕄) (sndPts (F := F) m c q) := by unfold sndPts; infer_instance
instance barPay_storable (c : Dev nD) (k) : BI.Storable (upEmb : UEmb _ 𝕄) (barPay (F := F) c k) := by unfold barPay; infer_instance
instance sendPay_storable (c : Dev nD) (k) : BI.Storable (upEmb : UEmb _ 𝕄) (sendPay (F := F) m c k) := by unfold sendPay; infer_instance
instance recvPay_storable (c : Dev nD) (k) : BI.Storable (upEmb : UEmb _ 𝕄) (recvPay (F := F) m c k) := by unfold recvPay; infer_instance

/-- A cell's duties: the barrier's 31 units; one for a copy's end. -/
def dutiesOf : Option CI → Finset (Fin 31)
  | some (.inl _) => Finset.univ
  | some (.inr _) => {0}
  | none => ∅
def amountOf' : Option CI → ℕ
  | some (.inl _) => 1
  | _ => N
def payOf (c : Dev nD) (d : Fin 31) : Option CI → sProp 𝕄
  | some (.inl _) => barPay c d
  | some (.inr (.inl k)) => sendPay m c k
  | some (.inr (.inr k)) => recvPay m c k
  | none => iprop(emp)

/-- One round per cell. -/
def rd : Rounds.Schedule (GSem nD τ sig) (Fin 31) 𝕄 where
  duties g r := if r = 0 ∧ g.1.2 = .tc then dutiesOf (which g.2) else ∅
  unitless _ := False
  amount g _ _ := amountOf' (which g.2)
  payload g _ d := payOf m g.1.1 d (which g.2)
  amount_pos g _ _ _ := by
    unfold amountOf'
    split
    · exact Nat.one_pos
    · exact N_pos

instance rd_payload_storable (g : GSem nD τ sig) (r : ℕ) (d : Fin 31) :
    BI.Storable (upEmb : UEmb _ 𝕄) ((rd (F := F) m).payload g r d) := by
  show BI.Storable upEmb (payOf m g.1.1 d (which g.2))
  unfold payOf
  split <;> infer_instance

theorem duties_at (c : Dev nD) (i : CI) : (rd (F := F) m).duties (kcell (c, i)) 0 = dutiesOf (some i) := by
  dsimp only [rd]
  rw [if_pos ⟨rfl, rfl⟩, which_csem]
theorem mem_bar (c : Dev nD) (k : Fin 31) : k ∈ (rd (F := F) m).duties (barCell c) 0 := by
  rw [duties_at]; exact Finset.mem_univ k
theorem mem_xfer (c : Dev nD) (x : Fin 31 ⊕ Fin 31) : 0 ∈ (rd (F := F) m).duties (kcell (c, .inr x)) 0 := by
  rw [duties_at]; exact Finset.mem_singleton_self _
theorem amount_at (c : Dev nD) (i : CI) (d) : (rd (F := F) m).amount (kcell (c, i)) 0 d = amountOf' (some i) := by
  show amountOf' (which (csem i)) = _
  rw [which_csem]
theorem payload_at (c : Dev nD) (i : CI) (d) : (rd (F := F) m).payload (kcell (c, i)) 0 d = payOf m c d (some i) := by
  show payOf m c d (which (csem i)) = _
  rw [which_csem]
theorem duties_later (g : GSem nD τ sig) : ∀ r, 1 ≤ r → (rd (F := F) m).duties g r = ∅ :=
  fun r hr => by dsimp only [rd]; rw [if_neg fun h => by omega]

theorem expect_bar (c : Dev nD) : (rd (F := F) m).expect (barCell c) 0 = 31 := by
  unfold Schedule.expect Schedule.amountOf
  rw [duties_at, Finset.sum_congr rfl fun d _ => amount_at m c (.inl ()) d]
  show ∑ _d ∈ (Finset.univ : Finset (Fin 31)), 1 = 31
  rw [Finset.sum_const, Finset.card_univ, Fintype.card_fin, smul_eq_mul]
theorem expect_xfer (c : Dev nD) (x : Fin 31 ⊕ Fin 31) : (rd (F := F) m).expect (kcell (c, .inr x)) 0 = N := by
  unfold Schedule.expect Schedule.amountOf
  rw [duties_at]
  show ∑ d ∈ ({0} : Finset (Fin 31)), _ = N
  rw [Finset.sum_singleton, amount_at]; rfl

/-- All the payloads of the barrier's round. -/
theorem rest_bar (c : Dev nD) :
    bigSep ((rd (F := F) m).duties (barCell c) 0 \ ∅) (fun d => (rd (F := F) m).payload (barCell c) 0 d) = bigSep Finset.univ (barPay (F := F) c) := by
  rw [Finset.sdiff_empty, duties_at]
  exact bigSep_congr fun d _ => payload_at m c (.inl ()) d
/-- The one payload of a copy's end. -/
theorem rest_xfer (c : Dev nD) (x : Fin 31 ⊕ Fin 31) :
    bigSep ((rd (F := F) m).duties (kcell (c, .inr x)) 0 \ ∅) (fun d => (rd (F := F) m).payload (kcell (c, .inr x)) 0 d) = payOf m c 0 (some (.inr x)) := by
  rw [Finset.sdiff_empty, duties_at]
  show bigSep ({0} : Finset (Fin 31)) _ = _
  rw [bigSep_singleton, payload_at]

/-! ## What each device owes, and the levels -/

/-- The receive credits of the copies from number `k` on. -/
def OR (c : Dev nD) (k : ℕ) : CellTallies nD τ sig Unit := ∑ i ∈ later k, tallyAt (recvCell (peer c i) i) () N
/-- The barrier units of the signals from number `j` on. -/
def OS (c : Dev nD) (j : ℕ) : CellTallies nD τ sig Unit := ∑ i ∈ later j, tallyAt (barCell (peer c i)) () 1
/-- What a device owes at launch. -/
def O₀ (c : Dev nD) : CellTallies nD τ sig Unit := OR c 0 + OS c 0

theorem OR_succ (c : Dev nD) {k : ℕ} (h : k < 31) :
    OR c k = OR c (k + 1) + tallyAt (recvCell (peer c ⟨k, h⟩) ⟨k, h⟩) () N := by
  unfold OR; rw [later_succ h, Finset.sum_insert (not_mem_later h), add_comm]
theorem OS_succ (c : Dev nD) {j : ℕ} (h : j < 31) :
    OS c j = OS c (j + 1) + tallyAt (barCell (peer c ⟨j, h⟩)) () 1 := by
  unfold OS; rw [later_succ h, Finset.sum_insert (not_mem_later h), add_comm]
theorem OR_end (c : Dev nD) : OR c 31 = 0 := by unfold OR; rw [later_end, Finset.sum_empty]
theorem OS_end (c : Dev nD) : OS c 31 = 0 := by unfold OS; rw [later_end, Finset.sum_empty]

def L (g : GSem nD τ sig) : Finset Unit := if g.1.2 = .tc then {()} else ∅
def lvOf : Option CI → ℕ
  | some (.inl _) => 1
  | some (.inr (.inr _)) => 2
  | _ => 0
/-- barrier cells at 1, receive cells at 2, everything else (staging, send) at 0. -/
def lv (g : GSem nD τ sig) (_ : Unit) : ℕ := lvOf (which g.2)

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (i : CI) (u : Unit) : lv (kcell (c, i)) u = lvOf (some i) := by
  show lvOf (which (csem i)) = _; rw [which_csem]

/-- A sum of tallies is positive only at one of its cells. -/
theorem sum_tally_pos {S : Finset (Fin 31)} {cell : Fin 31 → GSem nD τ sig} {n : ℕ} {g : GSem nD τ sig} {u : Unit}
    (h : 0 < (∑ i ∈ S, (tallyAt (cell i) () n : CellTallies nD τ sig Unit)) g u) : ∃ i, g = cell i := by
  rw [Finset.sum_apply, Finsupp.finset_sum_apply] at h
  obtain ⟨i, -, hi⟩ := Finset.exists_ne_zero_of_sum_ne_zero (Nat.pos_iff_ne_zero.mp h)
  rw [tallyAt_apply] at hi
  exact ⟨i, (by by_contra hn; exact hi (if_neg fun h' => hn h'.1))⟩

theorem OR_pos {c : Dev nD} {k : ℕ} {g : GSem nD τ sig} {u : Unit} (h : 0 < OR c k g u) : ∃ i, g = recvCell (peer c i) i :=
  sum_tally_pos h
theorem O₀_pos {c : Dev nD} {g : GSem nD τ sig} {u : Unit} (h : 0 < O₀ c g u) :
    (∃ i, g = recvCell (peer c i) i) ∨ ∃ i, g = barCell (peer c i) := by
  unfold O₀ at h
  rw [Pi.add_apply, Finsupp.add_apply] at h
  rcases Nat.eq_zero_or_pos (OR c 0 g u) with h0 | h0
  · rw [h0, zero_add] at h; exact .inr (sum_tally_pos h)
  · exact .inl (OR_pos h0)

/-- The staging copies are waited for whatever is owed: their cells lie below the gather's. -/
theorem mayWait_stage (c : Dev nD) (q : DmaSem sig) (hq : ∀ i, csem i ≠ .dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨i, rfl⟩ | ⟨i, rfl⟩ <;> exact Finset.mem_singleton_self _)
      (fun p hp => by
        rw [Finset.mem_singleton.mp hp]
        show lvOf (which (SemLoc.dma q)) ≤ 0
        rw [which_none _ hq]; exact Nat.le_refl 0)
      (fun g u hg => by
        rcases O₀_pos hg with ⟨i, rfl⟩ | ⟨i, rfl⟩ <;> (rw [lv_at]; exact Nat.succ_pos _))
  · rw [MayWait_zero]; iintro -; iempintro

/-- At its barrier wait a device owes receive credits only: receive cells lie above barrier cells. -/
theorem mayWait_bar (c : Dev nD) :
    (levAts L lv : sProp 𝕄) ⊢ MayWait (c : Thread nD τ) (.reg barS) () (OR c 0) :=
  MayOwe.of_cut (L := L) (lev := lv) 1 (fun p hp => by rw [Finset.mem_singleton.mp hp, L_tc]; exact Finset.mem_singleton_self _)
    (fun g u hg => by obtain ⟨i, rfl⟩ := OR_pos hg; exact Finset.mem_singleton_self _)
    (fun p hp => by rw [Finset.mem_singleton.mp hp]; exact Nat.le_of_eq (lv_at c (.inl ()) p.2))
    (fun g u hg => by obtain ⟨i, rfl⟩ := OR_pos hg; rw [lv_at]; exact Nat.lt_succ_self 1)

/-! ## The gathered array in blocks, the send buffer in shares -/

/-- The whole gathered array is its 32 blocks. -/
theorem gathered_blocks (c : Dev nD) (f : Buf (Elt F) ((c : Thread nD τ).loc cc0_scratch0)) :
    (((c : Thread nD τ).loc cc0_scratch0) ↦{fullShare} f : sProp 𝕄) = bigSep Finset.univ fun d => blkPts c d f := by
  have h := pointsTo_biUnion (Ix := Unit) (Name := ℕ) (U := UU) (Lvl := ℕ) (ℓ := (c : Thread nD τ).loc cc0_scratch0) (q := fullShare) (f := f) (Finset.univ : Finset (Dev nD))
    (fun d => (blk d).view.set) (fun d _ d' _ hne => blk_disjoint d d' hne)
  exact (congrArg (fun S => ((c : Thread nD τ).loc cc0_scratch0 ↦[S]{fullShare} f : sProp 𝕄)) blk_cover).symm.trans h

/-- All devices: oneself and one's peers. -/
theorem bigSep_peers (c : Dev nD) (Φ : Dev nD → sProp 𝕄) :
    bigSep Finset.univ Φ = iprop(Φ c ∗ bigSep Finset.univ fun k => Φ (peer c k)) := by
  have hu : (Finset.univ : Finset (Dev nD)) = insert c (Finset.univ.map ⟨peer c, peer_inj c⟩) := by
    ext d
    simp only [Finset.mem_univ, Finset.mem_insert, Finset.mem_map, Function.Embedding.coeFn_mk, true_and, true_iff]
    by_cases h : d = c
    · exact .inl h
    · exact .inr (exists_peer c d h)
  have hc : c ∉ Finset.univ.map ⟨peer c, peer_inj c⟩ := by
    simp only [Finset.mem_map, Finset.mem_univ, true_and, Function.Embedding.coeFn_mk, not_exists]
    exact fun k => peer_ne c k
  rw [hu, bigSep_insert hc, bigSep_map]
  rfl

/-- A copy's share taken off the send buffer. -/
theorem sndPts_split (c : Dev nD) (k : ℕ) :
    sndPts (F := F) m c (shr k) ⊣⊢ iprop(sndPts m c (shr k).left ∗ sndPts m c (shr (k + 1))) :=
  pointsTo_share (PosShare.mem_left_op_right (shr k))

end Cert.Gather

end
-- ==== Proof.Steps.lean ====
/-
  The gather's effects, one lemma per kind of effect: a signal, a copy, a wait for a copy's end. Each kind's lemma takes
  the device from the state before its number-`k` effect to the state after it, whatever else (`R`) is held, so that the
  kernel's 31 effects of the kind are 31 uses of the one lemma.
-/
module

public import proofs.«01_k».proof.Proof.Protocol

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c`'s TensorCore runs `p` to a value and a state of which `Q`. -/
abbrev runs (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

/-! ## Loads and stores of whole buffers -/

/-- A whole buffer, holding `f`. -/
abbrev holds (c : Dev nD) (b : Ref sig .tc) (f : b.ty.Contents (Elt F)) : sProp 𝕄 := ((c : Thread nD τ).loc b) ↦{fullShare} f

/-- A load that reads `v` goes on at `v`. -/
theorem load_whole (c : Dev nD) {s : Shape} {e : EltTy} (M : Memref sig .tc .vmem s e) {r : Rect s}
    {f : Buf (Elt F) (M.view.loc (c : Thread nD τ))} (v : r.shape.Idx → Elt F e) (hv : M.view.readAt (Elt F) r.toLoadRect f = v)
    {hl : M.view.LoadsAt r.toLoadRect}
    {k : (r.shape.Idx → Elt F e) → Prog (TpuEff nD τ sig (Elt F) Λ₀ .tc) PUnit} {Q : PUnit → sProp 𝕄} :
    (M.view.loc (c : Thread nD τ) ↦{fullShare} f) ⊢ iprop(((M.view.loc (c : Thread nD τ) ↦{fullShare} f) -∗ runs c (k v) Q)
      -∗ runs c (.op (.load M r.toLoadRect hl) k) Q) := by
  subst hv
  exact wp_load (defs := defs₀ (F := F)) 𝒱₀ (c : Thread nD τ) none Set.univ (m := M)
    (r := r.toLoadRect) (hl := hl) (k := k) (Q := Q) (S := Finset.univ) (q := fullShare) (f := f) (Finset.subset_univ _)

/-- A store that leaves `v` goes on there. -/
theorem store_whole (c : Dev nD) {s : Shape} {e : EltTy} (M : Memref sig .tc .vmem s e) {r : Rect s} {w : r.shape.Idx → Elt F e}
    {f : Buf (Elt F) (M.view.loc (c : Thread nD τ))} (v : Buf (Elt F) (M.view.loc (c : Thread nD τ)))
    (hv : (M.access r).write (Elt F) f w Finset.univ = v) {hx} {hm}
    {k : PUnit → Prog (TpuEff nD τ sig (Elt F) Λ₀ .tc) PUnit} {Q : PUnit → sProp 𝕄} :
    (M.view.loc (c : Thread nD τ) ↦{fullShare} f) ⊢ iprop(((M.view.loc (c : Thread nD τ) ↦{fullShare} v) -∗ runs c (k ⟨⟩) Q)
      -∗ runs c (.op (.store M r w Finset.univ hx hm) k) Q) := by
  subst hv
  exact wp_store (defs := defs₀ (F := F)) 𝒱₀ (c : Thread nD τ) none Set.univ (m := M)
    (r := r) (w := w) (Mk := Finset.univ) (hx := hx) (hm := hm) (k := k) (Q := Q) (S := Finset.univ) (f := f) (Finset.subset_univ _)

/-! ## What everybody knows -/

/-- Every cell of the mesh is an invariant, under the name `K` gives it, and its round 0 is reached. -/
def records (K : Dev nD × CI → ℕ) : sProp 𝕄 :=
  iprop((bigSep Finset.univ fun ck : Dev nD × CI => cellInv ER (rd m) (K ck) (kcell ck))
    ∗ bigSep Finset.univ fun ck : Dev nD × CI => reached ER (kcell ck) 0)

instance records_persistent (K : Dev nD × CI → ℕ) : BI.Persistent (records m K) := by unfold records; infer_instance

theorem inv_at (K : Dev nD × CI → ℕ) (ck : Dev nD × CI) : records m K ⊢ cellInv ER (rd m) (K ck) (kcell ck) := by
  unfold records
  exact (sep_elim_left).trans (bigSep_elim (Finset.mem_univ ck))
theorem reached_at (K : Dev nD × CI → ℕ) (ck : Dev nD × CI) : records m K ⊢ (reached ER (kcell ck) 0 : sProp 𝕄) := by
  unfold records
  exact (sep_elim_right).trans (bigSep_elim (Finset.mem_univ ck))

/-- Device `c` owes `O`, whatever it has waited for. -/
def OwesE (c : Dev nD) (O : CellTallies nD τ sig Unit) : sProp 𝕄 := iprop(∃ W, owes (c : Thread nD τ) O W)

/-! ## Signals -/

/-- Before signal `j`: the tokens of the signals to come, each with the block that it hands over. -/
def SigSt (c : Dev nD) (j : ℕ) : sProp 𝕄 :=
  iprop((bigSep (later j) fun i => iprop(dutyTok ER (barCell (peer c i)) 0 i.rev ∗ ∃ f, blkPts c (peer c i) f))
    ∗ OwesE c (OR c 0 + OS c j))

theorem sig_step (K : Dev nD × CI → ℕ) (c : Dev nD) {j : ℕ} (hj : j < 31) {n : Dev nD} (hn : n = peer c ⟨j, hj⟩)
    {k : PUnit → Prog (TpuEff nD τ sig (Elt F) Λ₀ .tc) PUnit} {Q : PUnit → sProp 𝕄} {R : sProp 𝕄}
    (h : iprop(records m K ∗ SigSt c (j + 1) ∗ R) ⊢ runs c (k ⟨⟩) Q) :
    iprop(records m K ∗ SigSt c j ∗ R) ⊢ runs c (.op (.semSignal (n, .tc) barS (1#32).toInt) k) Q := by
  subst hn
  unfold SigSt OwesE
  rw [bigSep_later hj, OS_succ c hj, ← add_assoc]
  iintro ⟨#Hr, ⟨⟨⟨Htok, Hb⟩, Hl⟩, ⟨%W, HO⟩⟩, HR⟩
  iapply (Rounds.wp_signal 𝒱₀ ER (rd m) (c : Thread nD τ) none (dst := (peer c ⟨j, hj⟩ : Thread nD τ)) (κ := K (peer c ⟨j, hj⟩, .inl ()))
      (d := (⟨j, hj⟩ : Fin 31).rev) (r := 0) (mem_bar m _ _) ((amount_at m (peer c ⟨j, hj⟩) (.inl ()) _).trans (by decide)) ()
      (OR c 0 + OS c (j + 1)) rfl) $$ [HO Htok Hb]
  · isplitr; · iapply (inv_at m K (peer c ⟨j, hj⟩, .inl ())); iexact Hr
    isplitl [HO]; · iexact HO
    isplitl [Htok]; · iexact Htok
    isplitl [Hb]
    · rw [payload_at m (peer c ⟨j, hj⟩) (.inl ())]
      unfold payOf barPay
      rw [peer_rev]
      iexact Hb
    iapply (reached_at m K (peer c ⟨j, hj⟩, .inl ())); iexact Hr
  iintro HO
  iapply h
  unfold SigSt OwesE
  isplitr; · iexact Hr
  isplitr [HR]
  · isplitl [Hl]; · iexact Hl
    iexists W; iexact HO
  iexact HR

/-! ## The barrier wait -/

theorem bar_step (K : Dev nD × CI → ℕ) (c : Dev nD)
    {k : PUnit → Prog (TpuEff nD τ sig (Elt F) Λ₀ .tc) PUnit} {Q : PUnit → sProp 𝕄} {R : sProp 𝕄}
    (h : iprop(records m K ∗ (bigSep Finset.univ (barPay (F := F) c) ∗ OwesE c (OR c 0) ∗ semVal (barCell c) 0) ∗ R) ⊢ runs c (k ⟨⟩) Q) :
    iprop(records m K ∗ (OwesE c (OR c 0) ∗ levAts L lv ∗ cred (tallyAt (barCell c) () 31) ∗ atPos ER (barCell c) 0 ∅ 0) ∗ R)
      ⊢ runs c (.op (.semWait barS (31#32).toInt) k) Q := by
  unfold OwesE
  iintro ⟨#Hr, ⟨⟨%W, HO⟩, #Hlev, Hc, Hat⟩, HR⟩
  iapply (Rounds.wp_wait_rest_token 𝒱₀ ER (rd m) (c : Thread nD τ) none (κ := K (c, .inl ()))
      (wpE_semWait_eq 𝒱₀ (c : Thread nD τ) none Set.univ) (Set.mem_univ _) () (O := OR c 0) (W := W) (R := 0) (m := 0) (T := ∅)
      (by rw [expect_bar]; decide)) $$ [Hc HO Hat]
  · isplitr; · iapply (inv_at m K (c, .inl ())); iexact Hr
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (rd m) (Set.mem_univ (K (c, .inl ()))) (fun h => h) (R := 0 + 1) (duties_later m (barCell c))) $$ [Hat] with Hz
  · isplitr; · iapply (inv_at m K (c, .inl ())); iexact Hr
    iexact Hat
  iapply h
  unfold OwesE
  isplitr; · iexact Hr
  isplitr [HR]
  · isplitl [Hp]; · iexact Hp
    isplitl [HO]; · iexists _; iexact HO
    iexact Hz
  iexact HR

/-! ## Copies -/

/-- Before copy `k`: the tokens of the copies to come, each with the block at its peer that it lands on; what is left of
    the send buffer; the credits of the copies made. -/
def SndSt (c : Dev nD) (k : ℕ) : sProp 𝕄 :=
  iprop((bigSep (later k) fun i => iprop((dutyTok ER (sendCell c i) 0 0 ∗ dutyTok ER (recvCell (peer c i) i) 0 0) ∗ ∃ f, blkPts (peer c i) c f))
    ∗ sndPts m c (shr k) ∗ OwesE c (OR c k) ∗ bigSep (sofar k) fun i => cred (tallyAt (sendCell c i) () N))

/-- The copy lands what the gathered array holds there. -/
theorem landed (c : Dev nD) (fd : (cc0_scratch0 : Ref sig .tc).ty.Contents (Elt F)) (n : Dev nD) :
    ((n : Thread nD τ).loc cc0_scratch0 ↦[(blk c).view.set]{fullShare}
        ((blk c).view.write (Elt F) fd (sM.view.read (Elt F) (rowsAt m c)) Finset.univ : Buf (Elt F) ((n : Thread nD τ).loc cc0_scratch0)) : sProp 𝕄)
      = blkPts n c (gath m) := by
  unfold blkPts
  refine pointsTo_congr fun i hi => ?_
  show (blk c).view.write (Elt F) fd ((View.whole cc0_scratch1).read (Elt F) (rowsAt m c)) Finset.univ i = _
  rw [View.read_whole]
  exact write_rows m c (k0_off2_eq c) fd i hi

/-- The copy's rule at the gather's cells. -/
theorem send_rule (K : Dev nD × CI → ℕ) (c : Dev nD) (i : Fin 31)
    {hsc : (blk c : Memref sig (Dev.tc (peer c i) : Thread nD τ).2.kind .vmem S8x256 .bf16).view.ref.isScScratch = false}
    {hsrc : (sM : Memref sig .tc .vmem S8x256 .bf16).view.WordExact} {hdst : (blk c).view.WordExact}
    {hsem : DmaTarget.Typed .vmem (.dma (recvS i)) (.remote (Dev.tc (peer c i) : Thread nD τ) (blk c) (.dma (sendS i)) hsc)}
    {k : PUnit → Prog (TpuEff nD τ sig (Elt F) Λ₀ .tc) PUnit} {Q : PUnit → sProp 𝕄}
    (fd : Buf (Elt F) ((peer c i : Thread nD τ).loc cc0_scratch0)) (W : Waits sig Unit) (O : CellTallies nD τ sig Unit) :
    iprop(cellInv ER (rd m) (K (c, .inr (.inl i))) (sendCell c i) ∗ cellInv ER (rd m) (K (peer c i, .inr (.inr i))) (recvCell (peer c i) i)
        ∗ sndPts m c (shr i.val).left ∗ blkPts (peer c i) c fd
        ∗ owes (c : Thread nD τ) (O + tallyAt (recvCell (peer c i) i) () N) W
        ∗ dutyTok ER (sendCell c i) 0 0 ∗ reached ER (sendCell c i) 0
        ∗ dutyTok ER (recvCell (peer c i) i) 0 0 ∗ reached ER (recvCell (peer c i) i) 0)
      ⊢ iprop(((cred (tallyAt (sendCell c i) () N) ∗ owes (c : Thread nD τ) O W) -∗ runs c (k ⟨⟩) Q)
          -∗ runs c (.op (.enqueueDma sM (.remote (Dev.tc (peer c i) : Thread nD τ) (blk c) (.dma (sendS i)) hsc) (.dma (recvS i)) hsrc hdst hsem) k) Q) := by
  have hS : (sM : Memref sig .tc .vmem S8x256 .bf16).view.set = Finset.univ := View.set_whole _
  have h1 : (sM.view.loc (c : Thread nD τ) ↦[(sM : Memref sig .tc .vmem S8x256 .bf16).view.set]{(shr i.val).left} rowsAt m c : sProp 𝕄)
      = sndPts m c (shr i.val).left := by rw [hS]; rfl
  have h2 : ((blk c).view.loc (peer c i : Thread nD τ) ↦[(blk c).view.set]{fullShare} fd : sProp 𝕄) = blkPts (peer c i) c fd := rfl
  rw [← h1, ← h2]
  exact Rounds.wp_send_pointsTo 𝒱₀ ER (rd m) (c : Thread nD τ) none (c' := (Dev.tc (peer c i) : Thread nD τ)) (src := sM) (dst := blk c)
    (sS := .dma (sendS i)) (sem := .dma (recvS i)) (κ₁ := K (c, .inr (.inl i))) (κ₂ := K (peer c i, .inr (.inr i)))
    (r₁ := 0) (r₂ := 0) (d₁ := 0) (d₂ := 0) (fd := fd)
    (mem_xfer m c (.inl i)) (mem_xfer m (peer c i) (.inr i))
    () () N (blk_credit c) (amount_at m c (.inr (.inl i)) 0) (amount_at m (peer c i) (.inr (.inr i)) 0) O rfl (W := W)
    (Entails.of_eq (h1.trans (payload_at m c (.inr (.inl i)) 0).symm))
    (Entails.of_eq ((landed m c fd (peer c i)).trans
      ((congrArg (fun d => blkPts (peer c i) d (gath m)) (peer_rev c i).symm).trans (payload_at m (peer c i) (.inr (.inr i)) 0).symm)))

theorem snd_step (K : Dev nD × CI → ℕ) (c : Dev nD) {j : ℕ} (hj : j < 31) {n : Dev nD} (hn : n = peer c ⟨j, hj⟩)
    {sS sR : DmaSem sig} (hS : sS = sendS ⟨j, hj⟩) (hR : sR = recvS ⟨j, hj⟩)
    {hsc : (blk c : Memref sig (Dev.tc n : Thread nD τ).2.kind .vmem S8x256 .bf16).view.ref.isScScratch = false}
    {hsrc : (sM : Memref sig .tc .vmem S8x256 .bf16).view.WordExact} {hdst : (blk c).view.WordExact}
    {hsem : DmaTarget.Typed .vmem (.dma sR) (.remote (Dev.tc n : Thread nD τ) (blk c) (.dma sS) hsc)}
    {k : PUnit → Prog (TpuEff nD τ sig (Elt F) Λ₀ .tc) PUnit} {Q : PUnit → sProp 𝕄} {R : sProp 𝕄}
    (h : iprop(records m K ∗ SndSt m c (j + 1) ∗ R) ⊢ runs c (k ⟨⟩) Q) :
    iprop(records m K ∗ SndSt m c j ∗ R)
      ⊢ runs c (.op (.enqueueDma sM (.remote (Dev.tc n : Thread nD τ) (blk c) (.dma sS) hsc) (.dma sR) hsrc hdst hsem) k) Q := by
  subst hn hS hR
  unfold SndSt OwesE
  rw [bigSep_later hj, OR_succ c hj]
  iintro ⟨#Hr, ⟨⟨⟨⟨HtS, HtR⟩, ⟨%fd, Hb⟩⟩, Hl⟩, Hs, ⟨%W, HO⟩, Hd⟩, HR⟩
  ihave Hs2 := (sndPts_split m c j).1 $$ Hs
  icases Hs2 with ⟨Hs1, Hs⟩
  iapply (send_rule m K c ⟨j, hj⟩ fd W (OR c (j + 1))) $$ [Hs1 Hb HO HtS HtR]
  · isplitr; · iapply (inv_at m K (c, .inr (.inl ⟨j, hj⟩))); iexact Hr
    isplitr; · iapply (inv_at m K (peer c ⟨j, hj⟩, .inr (.inr ⟨j, hj⟩))); iexact Hr
    isplitl [Hs1]; · iexact Hs1
    isplitl [Hb]; · iexact Hb
    isplitl [HO]; · iexact HO
    isplitl [HtS]; · iexact HtS
    isplitr; · iapply (reached_at m K (c, .inr (.inl ⟨j, hj⟩))); iexact Hr
    isplitl [HtR]; · iexact HtR
    iapply (reached_at m K (peer c ⟨j, hj⟩, .inr (.inr ⟨j, hj⟩))); iexact Hr
  iintro ⟨Hc, HO⟩
  iapply h
  unfold SndSt OwesE
  rw [bigSep_sofar hj]
  isplitr; · iexact Hr
  isplitr [HR]
  · isplitl [Hl]; · iexact Hl
    isplitl [Hs]; · iexact Hs
    isplitl [HO]; · iexists W; iexact HO
    isplitl [Hc]; · iexact Hc
    iexact Hd
  iexact HR

/-! ## Waits for a copy's end -/

/-- Before the wait number `k` of the cells `g 0, …, g 30`: the cells to come stand at their round 0 with the copy's credit
    at hand; the cells waited for have handed over their payloads, and are closed. -/
def WaitSt (g : Fin 31 → Fin 31 ⊕ Fin 31) (c : Dev nD) (k : ℕ) : sProp 𝕄 :=
  iprop((bigSep (later k) fun i => iprop(cred (tallyAt (kcell (c, .inr (g i))) () N) ∗ atPos ER (kcell (c, .inr (g i))) 0 ∅ 0))
    ∗ OwesE c 0
    ∗ bigSep (sofar k) fun i => iprop(payOf m c 0 (some (.inr (g i))) ∗ semVal (kcell (c, .inr (g i))) 0))

theorem wait_step (g : Fin 31 → Fin 31 ⊕ Fin 31) (K : Dev nD × CI → ℕ) (c : Dev nD) {j : ℕ} (hj : j < 31)
    {sm : DmaSem sig} (hsm : SemLoc.dma sm = osem (g ⟨j, hj⟩))
    {src dst : Memref sig .tc .vmem S8x256 .bf16} (hN : dst.view.dmaCredit = N) {hsrc : src.view.WordExact} {hdst : dst.view.WordExact}
    {k : PUnit → Prog (TpuEff nD τ sig (Elt F) Λ₀ .tc) PUnit} {Q : PUnit → sProp 𝕄} {R : sProp 𝕄}
    (h : iprop(records m K ∗ WaitSt m g c (j + 1) ∗ R) ⊢ runs c (k ⟨⟩) Q) :
    iprop(records m K ∗ WaitSt m g c j ∗ R) ⊢ runs c (.op (.waitDma2 sm src dst hsrc hdst) k) Q := by
  have hcell : ((c : Thread nD τ), SemLoc.dma sm) = kcell (c, .inr (g ⟨j, hj⟩)) := Prod.ext rfl hsm
  unfold WaitSt OwesE
  rw [bigSep_later hj]
  iintro ⟨#Hr, ⟨⟨⟨Hc, Hat⟩, Hl⟩, ⟨%W, HO⟩, Hd⟩, HR⟩
  iapply (Rounds.wp_wait_rest_token 𝒱₀ ER (rd m) (c : Thread nD τ) none (κ := K (c, .inr (g ⟨j, hj⟩)))
      (wpE_waitDma2_eq 𝒱₀ (c : Thread nD τ) none Set.univ) (Set.mem_univ _) () (O := 0) (W := W) (R := 0) (m := 0) (T := ∅)
      (by rw [Nat.zero_add, hcell, expect_xfer, hN])) $$ [Hc HO Hat]
  · isplitr; · rw [hcell]; iapply (inv_at m K (c, .inr (g ⟨j, hj⟩))); iexact Hr
    isplitl [Hc]; · rw [hcell]; iapply (Entails.of_eq (congrArg (fun n => (cred (tallyAt (kcell (c, .inr (g ⟨j, hj⟩))) () n) : sProp 𝕄)) hN.symm)); iexact Hc
    isplitl [HO]; · iexact HO
    isplitr; · rw [MayWait_zero]; iempintro
    rw [hcell]; iexact Hat
  iintro ⟨HO, Hat, -, Hpay⟩
  rw [hcell]
  ihave Hp := (Entails.of_eq (rest_xfer m c (g ⟨j, hj⟩))) $$ Hpay
  imod (Rounds.cell_close ER (rd m) (Set.mem_univ (K (c, .inr (g ⟨j, hj⟩)))) (fun h => h) (R := 0 + 1) (duties_later m (kcell (c, .inr (g ⟨j, hj⟩))))) $$ [Hat] with Hz
  · isplitr; · iapply (inv_at m K (c, .inr (g ⟨j, hj⟩))); iexact Hr
    iexact Hat
  iapply h
  unfold WaitSt OwesE
  rw [bigSep_sofar hj]
  isplitr; · iexact Hr
  isplitr [HR]
  · isplitl [Hl]; · iexact Hl
    isplitl [HO]; · iexists _; iexact HO
    isplitr [Hd]
    · isplitl [Hp]; · iexact Hp
      iexact Hz
    iexact Hd
  iexact HR

end Cert.Gather

end
-- ==== Proof.Body.lean ====
/-
  The gather's body: the pipeline's proof data, and the run of one device's kernel from what it starts with to its result.
-/
module

public import proofs.«01_k».proof.Proof.Steps
public import Idealize.ShloMosaic.Lib.Pipeline.Frame

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- A device that the kernel computes by counting on around the mesh is a peer. -/
theorem dev_eq {c : Dev nD} {n : ℕ} (hn : n < nD) (j : Fin 31) (h : n = (c.val + (j.val + 1)) % 32) : (⟨n, hn⟩ : Dev nD) = peer c j :=
  Fin.ext (h.trans (by rw [← Nat.add_assoc]; rfl))

/-! ## The pipeline's proof data -/

/-- A device's block of the result: the rows of the gathered array that its tokens choose. -/
def outAt (c : Dev nD) : (cc0_stg3_0 : Ref sig .tc).ty.Contents (Elt F) :=
  k0_pay17 (k0_pay16 (k0_pay2 (iAt m c)) (k0_pay15 (k0_pay1 (F := F)) (k0_pay2 (iAt m c))) 3#32) (gath m)

/-- The tokens of the duties that device `c` pays: its signals', and both ends' of its copies. -/
def tokens (c : Dev nD) : sProp 𝕄 :=
  iprop((bigSep Finset.univ fun i => dutyTok ER (barCell (peer c i)) 0 i.rev)
    ∗ bigSep Finset.univ fun i => iprop(dutyTok ER (sendCell c i) 0 0 ∗ dutyTok ER (recvCell (peer c i) i) 0 0))
/-- Device `c` stands at round 0 of each of its cells. -/
def positions (c : Dev nD) : sProp 𝕄 :=
  iprop(atPos ER (barCell c) 0 ∅ 0 ∗ (bigSep Finset.univ fun i => atPos ER (sendCell c i) 0 ∅ 0)
    ∗ bigSep Finset.univ fun i => atPos ER (recvCell c i) 0 ∅ 0)
def ghost (K : Dev nD × CI → ℕ) (c : Dev nD) : sProp 𝕄 := iprop(records m K ∗ positions c ∗ tokens c)

/-- What device `c`'s body starts from: that at some names, the credits of what the others owe it, the levels. -/
def start (c : Dev nD) : sProp 𝕄 :=
  iprop((∃ K, ghost m K c) ∗ cred (tallyAt (barCell c) () 31) ∗ (bigSep Finset.univ fun i => cred (tallyAt (recvCell c i) () N)) ∗ levAts L lv)

/-- Before the point: that, with the gathered array and the send buffer at whatever they hold. -/
def Φ₀ (c : Dev nD) : sProp 𝕄 := iprop(start m c ∗ (∃ f, holds c cc0_scratch0 f) ∗ ∃ f, holds c cc0_scratch1 f)
/-- After it: the two buffers, and every cell of the device closed at zero. -/
def Φ₁ (c : Dev nD) : sProp 𝕄 :=
  iprop((∃ f, holds c cc0_scratch0 f) ∗ (∃ f, holds c cc0_scratch1 f) ∗ semVal (barCell c) 0
    ∗ (bigSep Finset.univ fun i => semVal (sendCell c i) 0) ∗ bigSep Finset.univ fun i => semVal (recvCell c i) 0)

def dats (_ : Fin 1) (c : Dev nD) : Dat τ (Elt F) Unit ℕ UU ℕ cfg0 c where
  A w := m ((cfg0.win w).arr.view.loc (c : Thread nD τ))
  after w _ := match w with
    | ⟨0, _⟩ => xAt m c
    | ⟨1, _⟩ => iAt m c
    | ⟨2, _⟩ => wAt m c
    | ⟨3, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The buffers that the body loads and stores -/

theorem hz2 : (![0, 0] : Fin 2 → Nat) = fun _ => 0 := funext fun a => by fin_cases a <;> rfl
theorem hz3 : (![0, 0, 0] : Fin 3 → Nat) = fun _ => 0 := funext fun a => by fin_cases a <;> rfl

/-- Device `c`'s own block, written: it holds what the gathered array holds there. -/
theorem own_block (c : Dev nD) (f : (cc0_scratch0 : Ref sig .tc).ty.Contents (Elt F)) :
    ((c : Thread nD τ).loc cc0_scratch0 ↦[(blk c).view.set]{fullShare}
        ((cM.access (Rect.unit (s := S256x256) (k0_off1 c) S8x256.size (k0_off1_inb c))).write (Elt F) f
            (k0_pay14 (k0_pay6 (myWord c) (iAt m c)) (k0_pay7 (myWord c) (iAt m c)) (k0_pay8 (myWord c) (iAt m c))
              (k0_pay9 (myWord c) (iAt m c)) (k0_pay10 (xAt m c)) (k0_pay11 (wAt m c))) Finset.univ
          : Buf (Elt F) ((c : Thread nD τ).loc cc0_scratch0)) : sProp 𝕄)
      = blkPts c c (gath m) := by
  unfold blkPts
  exact pointsTo_congr fun i hi => write_rows m c (k0_off1_eq c) f i ((mem_rows c (k0_off1_eq c) i).mpr ((mem_blk c i).mp hi))

/-- The shares handed back by the copies and what was left over are the send buffer. -/
theorem shares_join (c : Dev nD) (k : ℕ) (hk : k ≤ 31) :
    iprop((bigSep (sofar k) fun i => sndPts m c (shr i.val).left) ∗ sndPts m c (shr k)) ⊢ (sndPts (F := F) m c fullShare : sProp 𝕄) := by
  induction k with
  | zero => rw [sofar_zero]; iintro ⟨-, H⟩; iexact H
  | succ k ih =>
    rw [bigSep_sofar (by omega)]
    iintro ⟨⟨H1, Hl⟩, H2⟩
    iapply (ih (by omega))
    isplitl [Hl]; · iexact Hl
    iapply (sndPts_split m c k).2
    isplitl [H1] <;> iassumption

/-- The blocks that landed and one's own are the gathered array. -/
theorem blocks_join (c : Dev nD) :
    iprop(blkPts c c (gath m) ∗ bigSep Finset.univ (recvPay m c)) ⊢ (holds (F := F) c cc0_scratch0 (gath m) : sProp 𝕄) := by
  rw [show holds (F := F) c cc0_scratch0 (gath m) = bigSep Finset.univ fun d => blkPts c d (gath m) from gathered_blocks c (gath m),
    bigSep_peers c, bigSep_univ_equiv Fin.revPerm (fun k => blkPts c (peer c k) (gath m))]
  exact BI.Entails.refl _

/-! ## The body -/

/-- What device `c` holds beside the signals' tokens while it signals. -/
def rest₁ (c : Dev nD) : sProp 𝕄 :=
  iprop((levAts L lv ∗ cred (tallyAt (barCell c) () 31) ∗ atPos ER (barCell c) 0 ∅ 0)
    ∗ (∃ f, blkPts c c f) ∗ (∃ f, holds c cc0_scratch1 f) ∗ (∃ f, holds c cc0_stg3_0 f)
    ∗ (holds c cc0_stg0_0 (xAt m c) ∗ holds c cc0_stg1_0 (iAt m c) ∗ holds c cc0_stg2_0 (wAt m c))
    ∗ (bigSep Finset.univ fun i => iprop(dutyTok ER (sendCell c i) 0 0 ∗ dutyTok ER (recvCell (peer c i) i) 0 0))
    ∗ (bigSep Finset.univ fun i => iprop(cred (tallyAt (recvCell c i) () N) ∗ atPos ER (recvCell c i) 0 ∅ 0))
    ∗ (bigSep Finset.univ fun i => atPos ER (sendCell c i) 0 ∅ 0))
/-- What it holds beside the barrier's cell while it waits there. -/
def rest₂ (c : Dev nD) : sProp 𝕄 :=
  iprop(blkPts c c (gath m) ∗ sndPts m c fullShare ∗ (∃ f, holds c cc0_stg3_0 f)
    ∗ (holds c cc0_stg0_0 (xAt m c) ∗ holds c cc0_stg1_0 (iAt m c) ∗ holds c cc0_stg2_0 (wAt m c))
    ∗ (bigSep Finset.univ fun i => iprop(dutyTok ER (sendCell c i) 0 0 ∗ dutyTok ER (recvCell (peer c i) i) 0 0))
    ∗ (bigSep Finset.univ fun i => iprop(cred (tallyAt (recvCell c i) () N) ∗ atPos ER (recvCell c i) 0 ∅ 0))
    ∗ (bigSep Finset.univ fun i => atPos ER (sendCell c i) 0 ∅ 0))
/-- What it holds beside the copies' tokens while it copies. -/
def rest₃ (c : Dev nD) : sProp 𝕄 :=
  iprop(semVal (barCell c) 0 ∗ blkPts c c (gath m) ∗ (∃ f, holds c cc0_stg3_0 f)
    ∗ (holds c cc0_stg0_0 (xAt m c) ∗ holds c cc0_stg1_0 (iAt m c) ∗ holds c cc0_stg2_0 (wAt m c))
    ∗ (bigSep Finset.univ fun i => iprop(cred (tallyAt (recvCell c i) () N) ∗ atPos ER (recvCell c i) 0 ∅ 0))
    ∗ (bigSep Finset.univ fun i => atPos ER (sendCell c i) 0 ∅ 0))
/-- What it holds beside the receive cells while it waits for the landings. -/
def rest₄ (c : Dev nD) : sProp 𝕄 :=
  iprop(semVal (barCell c) 0 ∗ blkPts c c (gath m) ∗ (∃ f, holds c cc0_stg3_0 f)
    ∗ (holds c cc0_stg0_0 (xAt m c) ∗ holds c cc0_stg1_0 (iAt m c) ∗ holds c cc0_stg2_0 (wAt m c))
    ∗ sndPts m c (shr 31)
    ∗ (bigSep Finset.univ fun i => iprop(cred (tallyAt (sendCell c i) () N) ∗ atPos ER (sendCell c i) 0 ∅ 0)))
/-- What it holds beside the send cells while it waits for its copies. -/
def rest₅ (c : Dev nD) : sProp 𝕄 :=
  iprop(semVal (barCell c) 0 ∗ holds c cc0_scratch0 (gath m) ∗ holds c cc0_stg3_0 (outAt m c)
    ∗ (holds c cc0_stg0_0 (xAt m c) ∗ holds c cc0_stg1_0 (iAt m c) ∗ holds c cc0_stg2_0 (wAt m c))
    ∗ sndPts m c (shr 31) ∗ (bigSep Finset.univ fun i => semVal (recvCell c i) 0))

/-- What the body leaves. -/
def leaves (c : Dev nD) : sProp 𝕄 :=
  iprop(Φ₁ c ∗ OwesE c 0 ∗ (holds c cc0_stg0_0 (xAt m c) ∗ holds c cc0_stg1_0 (iAt m c) ∗ holds c cc0_stg2_0 (wAt m c))
    ∗ holds c cc0_stg3_0 (outAt m c))

/-- The barrier passed: every peer's rows of one's block are at hand, and the copies may start. -/
theorem to_copies (K : Dev nD × CI → ℕ) (c : Dev nD) :
    iprop(records m K ∗ (bigSep Finset.univ (barPay (F := F) c) ∗ OwesE c (OR c 0) ∗ semVal (barCell c) 0) ∗ rest₂ m c)
      ⊢ iprop(records m K ∗ SndSt m c 0 ∗ rest₃ m c) := by
  unfold rest₂ rest₃ SndSt
  rw [later_zero, sofar_zero, bigSep_sep' _ _ (fun i => iprop(∃ f, blkPts (peer c i) c f))]
  iintro ⟨Hr, ⟨Hb, HO, Hz⟩, Hown, Hs, Ho, Hx, Ht, Hc, Ha⟩
  isplitl [Hr]; · iexact Hr
  isplitl [Ht Hb Hs HO]
  · isplitl [Ht Hb]
    · isplitl [Ht]; · iexact Ht
      iexact Hb
    isplitl [Hs]; · iexact Hs
    isplitl [HO]; · iexact HO
    iempintro
  isplitl [Hz]; · iexact Hz
  isplitl [Hown]; · iexact Hown
  isplitl [Ho]; · iexact Ho
  isplitl [Hx]; · iexact Hx
  isplitl [Hc] <;> iassumption

/-- The copies made: what is owed is paid, and the landings are waited for. -/
theorem to_landings (K : Dev nD × CI → ℕ) (c : Dev nD) :
    iprop(records m K ∗ SndSt m c 31 ∗ rest₃ m c) ⊢ iprop(records m K ∗ WaitSt m Sum.inr c 0 ∗ rest₄ m c) := by
  unfold rest₃ rest₄ SndSt WaitSt
  rw [later_zero, sofar_zero, later_end, sofar_end, OR_end, bigSep_sep' _ (fun i => (cred (tallyAt (sendCell c i) () N) : sProp 𝕄))]
  iintro ⟨Hr, ⟨-, Hs, HO, Hcs⟩, Hz, Hown, Ho, Hx, Hc, Ha⟩
  isplitl [Hr]; · iexact Hr
  isplitl [Hc HO]
  · isplitl [Hc]; · iexact Hc
    isplitl [HO]; · iexact HO
    iempintro
  isplitl [Hz]; · iexact Hz
  isplitl [Hown]; · iexact Hown
  isplitl [Ho]; · iexact Ho
  isplitl [Hx]; · iexact Hx
  isplitl [Hs]; · iexact Hs
  isplitl [Hcs] <;> iassumption

/-- All rows landed: the gathered array is whole. -/
theorem to_gathered (K : Dev nD × CI → ℕ) (c : Dev nD) :
    iprop(records m K ∗ WaitSt m Sum.inr c 31 ∗ rest₄ m c)
      ⊢ iprop(holds c cc0_scratch0 (gath m) ∗ (∃ f, holds c cc0_stg3_0 f) ∗ holds c cc0_stg1_0 (iAt m c)
        ∗ (records m K ∗ OwesE c 0 ∗ semVal (barCell c) 0 ∗ holds c cc0_stg0_0 (xAt m c) ∗ holds c cc0_stg2_0 (wAt m c)
          ∗ sndPts m c (shr 31) ∗ (bigSep Finset.univ fun i => semVal (recvCell c i) 0)
          ∗ (bigSep Finset.univ fun i => iprop(cred (tallyAt (sendCell c i) () N) ∗ atPos ER (sendCell c i) 0 ∅ 0)))) := by
  unfold rest₄ WaitSt
  rw [later_end, sofar_end, bigSep_sep' _ (fun i => payOf m c 0 (some (.inr (Sum.inr i))))]
  iintro ⟨Hr, ⟨-, HO, Hp, Hzr⟩, Hz, Hown, Ho, ⟨Hx, Hi, Hw⟩, Hs, Hc⟩
  isplitl [Hp Hown]
  · iapply (blocks_join m c)
    isplitl [Hown]; · iexact Hown
    iexact Hp
  isplitl [Ho]; · iexact Ho
  isplitl [Hi]; · iexact Hi
  isplitl [Hr]; · iexact Hr
  isplitl [HO]; · iexact HO
  isplitl [Hz]; · iexact Hz
  isplitl [Hx]; · iexact Hx
  isplitl [Hw]; · iexact Hw
  isplitl [Hs]; · iexact Hs
  isplitl [Hzr] <;> iassumption

/-- All waited for: the device's buffers are whole again and its cells closed. -/
theorem to_leaves (K : Dev nD × CI → ℕ) (c : Dev nD) :
    iprop(records m K ∗ WaitSt m Sum.inl c 31 ∗ rest₅ m c) ⊢ leaves m c := by
  unfold rest₅ leaves WaitSt Φ₁
  rw [later_end, sofar_end, bigSep_sep' _ (fun i => payOf m c 0 (some (.inr (Sum.inl i))))]
  iintro ⟨-, ⟨-, HO, Hp, Hzs⟩, Hz, Hc, Ho, Hx, Hs, Hzr⟩
  ihave Hs' := (shares_join m c 31 (Nat.le_refl _)) $$ [Hp Hs]
  · rw [sofar_end]
    isplitl [Hp]; · iexact Hp
    iexact Hs
  isplitl [Hc Hs' Hz Hzs Hzr]
  · isplitl [Hc]; · iexists _; iexact Hc
    isplitl [Hs']; · iexists (rowsAt m c); iapply (Entails.of_eq (show sndPts m c fullShare = holds c cc0_scratch1 (rowsAt m c) from rfl)); iexact Hs'
    isplitl [Hz]; · iexact Hz
    isplitl [Hzs] <;> iassumption
  isplitl [HO]; · iexact HO
  isplitl [Hx]; · iexact Hx
  iexact Ho

set_option maxRecDepth 65536 in
set_option maxHeartbeats 4000000 in
/-- The body, effect by effect in program order. -/
theorem sound_body (K : Dev nD × CI → ℕ) (c : Dev nD) :
    iprop(records m K ∗ SigSt c 0 ∗ rest₁ m c)
      ⊢ runs c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3)
          fun _ => leaves m c := by
  simp only [cc0_body_eq_skeleton]; unfold cc0_body_skel
  simp only [k0_part31_eq_skeleton]; unfold k0_part31_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel
  simp only [semSignalWord, semWaitWord, Prog.lift, Prog.bind_op, Prog.bind_ret, Prog.pure_eq_ret, wp_deviceId]
  -- the 31 signals
  iterate 31 refine sig_step m K c (by decide) (dev_eq _ _ (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq])) ?_
  unfold SigSt rest₁
  rw [OS_end, add_zero]
  iintro ⟨#Hr, ⟨-, HO⟩, HB, ⟨%fc, Hown⟩, ⟨%fs, Hs⟩, ⟨%fo, Ho⟩, ⟨Hx, Hi, Hw⟩, Hrest⟩
  -- the device's own rows, computed and stored in the send buffer and in its block
  iapply (load_whole c iM (iAt m c) (Memref.readAt_unit_zero (Elt F) cc0_stg1_0 hz2 _ _)) $$ Hi; iintro Hi
  iapply (load_whole c xM (xAt m c) (Memref.readAt_unit_zero (Elt F) cc0_stg0_0 hz2 _ _)) $$ Hx; iintro Hx
  iapply (load_whole c wM (wAt m c) (Memref.readAt_unit_zero (Elt F) cc0_stg2_0 hz3 _ _)) $$ Hw; iintro Hw
  iapply (load_whole c sM fs (Memref.readAt_unit_zero (Elt F) cc0_scratch1 hz2 _ _)) $$ Hs; iintro Hs
  iapply (store_whole c sM (rowsAt m c) (Memref.write_access_unit_zero_univ (Elt F) cc0_scratch1 hz2 _ fs _)) $$ Hs; iintro Hs
  have hsub : (cM.access (Rect.unit (s := S256x256) (k0_off1 c) S8x256.size (k0_off1_inb c))).set ⊆ (blk c).view.set :=
    fun i hi => (mem_blk c i).mpr ((mem_rows c (k0_off1_eq c) i).mp hi)
  unfold blkPts
  iapply (wp_load_rect 𝒱₀ (c : Thread nD τ) none Set.univ (m := cM) hsub) $$ Hown; iintro Hown
  iapply (wp_store 𝒱₀ (c : Thread nD τ) none Set.univ (m := cM) (Mk := Finset.univ) hsub) $$ Hown; iintro Hown
  ihave Hown := (Entails.of_eq (own_block m c fc)) $$ Hown
  istop
  refine BIBase.Entails.trans (Q := iprop(records m K ∗ (OwesE c (OR c 0) ∗ levAts L lv ∗ cred (tallyAt (barCell c) () 31) ∗ atPos ER (barCell c) 0 ∅ 0) ∗ rest₂ m c)) ?_
    (bar_step m K c ?_)
  · unfold rest₂
    iintro ⟨⟨⟨⟨⟨⟨⟨⟨⟨#Hr, HO⟩, Hlev, Hcb, Hab⟩, Ho⟩, Ht, Hc, Ha⟩, Hi⟩, Hx⟩, Hw⟩, Hs⟩, Hown⟩
    isplitr; · iexact Hr
    isplitl [HO Hlev Hcb Hab]
    · isplitl [HO]; · iexact HO
      isplitl [Hlev]; · iexact Hlev
      isplitl [Hcb] <;> iassumption
    isplitl [Hown]; · iexact Hown
    isplitl [Hs]; · iapply (Entails.of_eq (show holds c cc0_scratch1 (rowsAt m c) = sndPts m c fullShare from rfl)); iexact Hs
    isplitl [Ho]; · iexists fo; iexact Ho
    isplitl [Hx Hi Hw]
    · isplitl [Hx]; · iexact Hx
      isplitl [Hi] <;> iassumption
    isplitl [Ht]; · iexact Ht
    isplitl [Hc] <;> iassumption
  refine (to_copies m K c).trans ?_
  -- the 31 copies
  iterate 31 refine snd_step m K c (by decide) (dev_eq _ _ (by simp only [k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq, k0_dev55_eq, k0_dev56_eq, k0_dev57_eq, k0_dev58_eq, k0_dev59_eq, k0_dev60_eq, k0_dev61_eq, k0_dev62_eq])) (by rfl) (by rfl) ?_
  refine (to_landings m K c).trans ?_
  -- the 31 landings
  iterate 31 refine wait_step m Sum.inr K c (by decide) (by rfl) (by rfl) ?_
  refine (to_gathered m K c).trans ?_
  iintro ⟨Hc, ⟨%fo, Ho⟩, Hi, Hr, HO, Hz, Hx, Hw, Hs, Hzr, Hq⟩
  -- the one-hot matmul over the gathered rows
  iapply (load_whole c cM (gath m) (Memref.readAt_unit_zero (Elt F) cc0_scratch0 hz2 _ _)) $$ Hc; iintro Hc
  iapply (load_whole c oM fo (Memref.readAt_unit_zero (Elt F) cc0_stg3_0 hz2 _ _)) $$ Ho; iintro Ho
  iapply (store_whole c oM (outAt m c) (Memref.write_access_unit_zero_univ (Elt F) cc0_stg3_0 hz2 _ fo _)) $$ Ho; iintro Ho
  istop
  refine BIBase.Entails.trans (Q := iprop(records m K ∗ WaitSt m Sum.inl c 0 ∗ rest₅ m c)) ?_ ?_
  · unfold rest₅ WaitSt
    rw [later_zero, sofar_zero]
    iintro ⟨⟨⟨⟨⟨⟨⟨⟨⟨⟨Hi, Hr⟩, HO⟩, Hz⟩, Hx⟩, Hw⟩, Hs⟩, Hzr⟩, Hq⟩, Hc⟩, Ho⟩
    isplitl [Hr]; · iexact Hr
    isplitl [Hq HO]
    · isplitl [Hq]; · iexact Hq
      isplitl [HO]; · iexact HO
      iempintro
    isplitl [Hz]; · iexact Hz
    isplitl [Hc]; · iexact Hc
    isplitl [Ho]; · iexact Ho
    isplitl [Hx Hi Hw]
    · isplitl [Hx]; · iexact Hx
      isplitl [Hi] <;> iassumption
    isplitl [Hs] <;> iassumption
  -- the 31 copies' ends
  iterate 31 refine wait_step m Sum.inl K c (by decide) (by rfl) (by rfl) ?_
  exact (to_leaves m K c).trans fupd_intro

/-- What the launch gave a device, and its buffers, is what its signals start from. -/
theorem to_signals (K : Dev nD × CI → ℕ) (c : Dev nD) :
    iprop((ghost m K c ∗ cred (tallyAt (barCell c) () 31) ∗ (bigSep Finset.univ fun i => cred (tallyAt (recvCell c i) () N)) ∗ levAts L lv)
        ∗ ((∃ f, holds c cc0_scratch0 f) ∗ ∃ f, holds c cc0_scratch1 f) ∗ OwesE c (O₀ c)
        ∗ (holds c cc0_stg0_0 (xAt m c) ∗ holds c cc0_stg1_0 (iAt m c) ∗ holds c cc0_stg2_0 (wAt m c)) ∗ ∃ f, holds c cc0_stg3_0 f)
      ⊢ iprop(records m K ∗ SigSt c 0 ∗ rest₁ m c) := by
  unfold ghost positions tokens SigSt rest₁
  rw [later_zero, bigSep_sep' _ (fun i => dutyTok ER (barCell (peer c i)) 0 i.rev) (fun i => iprop(∃ f, blkPts c (peer c i) f)),
    bigSep_sep' _ (fun i => (cred (tallyAt (recvCell c i) () N) : sProp 𝕄))]
  iintro ⟨⟨⟨Hr, ⟨Hab, Has, Har⟩, Htb, Htx⟩, Hcb, Hcr, Hlev⟩, ⟨⟨%f, Hc⟩, Hs⟩, HO, Hx, Ho⟩
  ihave Hc' := (Entails.of_eq ((gathered_blocks c f).trans (bigSep_peers c fun d => blkPts c d f))) $$ Hc
  icases Hc' with ⟨Hown, Hpeers⟩
  isplitl [Hr]; · iexact Hr
  isplitl [Htb Hpeers HO]
  · isplitl [Htb Hpeers]
    · isplitl [Htb]; · iexact Htb
      iapply (show (bigSep Finset.univ fun k => blkPts c (peer c k) f) ⊢ (bigSep Finset.univ fun k => iprop(∃ f, blkPts c (peer c k) f) : sProp 𝕄) from
        bigSep_mono fun k _ => show blkPts c (peer c k) f ⊢ iprop(∃ f, blkPts c (peer c k) f) from by iintro H; iexists f; iexact H)
      iexact Hpeers
    iexact HO
  isplitl [Hlev Hcb Hab]
  · isplitl [Hlev]; · iexact Hlev
    isplitl [Hcb] <;> iassumption
  isplitl [Hown]; · iexists f; iexact Hown
  isplitl [Hs]; · iexact Hs
  isplitl [Ho]; · iexact Ho
  isplitl [Hx]; · iexact Hx
  isplitl [Htx]; · iexact Htx
  isplitl [Hcr Har]
  · isplitl [Hcr] <;> iassumption
  iexact Has

/-- A whole staging buffer at contents equal to `d`. -/
def stg (c : Dev nD) (b : Ref sig .tc) (d : b.ty.Contents (Elt F)) : sProp 𝕄 :=
  iprop(∃ f, ⌜(f : b.ty.Contents (Elt F)) = d⌝ ∗ holds c b f)

def bodyPre (c : Dev nD) : sProp 𝕄 :=
  iprop(Φ₀ m c ∗ (dats m 0 c).owesAt () t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ ∃ d, stg c cc0_stg3_0 ((dats m 0 c).before (3 : Fin 4) t0_0 d))
def bodyPost (c : Dev nD) : sProp 𝕄 :=
  iprop(Φ₁ c ∗ (dats m 0 c).owesAt () t0_0.succ ∗ stg c cc0_stg0_0 (xAt m c) ∗ stg c cc0_stg1_0 (iAt m c) ∗ stg c cc0_stg2_0 (wAt m c)
    ∗ stg c cc0_stg3_0 (outAt m c))

/-- The body's end, in the words of the pipeline. -/
theorem leaves_post (c : Dev nD) : leaves m c ⊢ bodyPost m c := by
  unfold leaves bodyPost OwesE stg Dat.owesAt Pipeline.owesWithin
  rw [show (dats m 0 c).owed t0_0.succ = 0 from rfl]
  iintro ⟨HΦ, ⟨%W, HO⟩, ⟨Hx, Hi, Hw⟩, Ho⟩
  isplitl [HΦ]; · iexact HΦ
  isplitl [HO]
  · iexists W
    isplitr; · ipureintro; exact fun _ _ => Or.inl trivial
    iexact HO
  isplitl [Hx]; · iexists _; isplitr; · (ipureintro; rfl)
                  iexact Hx
  isplitl [Hi]; · iexists _; isplitr; · (ipureintro; rfl)
                  iexact Hi
  isplitl [Hw]; · iexists _; isplitr; · (ipureintro; rfl)
                  iexact Hw
  iexists _; isplitr; · (ipureintro; rfl)
  iexact Ho

set_option maxRecDepth 16000 in
/-- The body's obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ
    (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3) (fun _ => bodyPost m c)
  unfold bodyPre Φ₀ start stg Dat.owesAt Pipeline.owesWithin
  rw [show (dats m 0 c).owed t0_0.castSucc = O₀ c from rfl]
  iintro ⟨⟨⟨⟨%K, Hg⟩, Hcr⟩, Hscr⟩, ⟨%W, -, HO⟩, ⟨%d0, %f0, %h0, Hx⟩, ⟨%d1, %f1, %h1, Hi⟩, ⟨%d2, %f2, %h2, Hw⟩, ⟨%d3, %f3, -, Ho⟩⟩
  subst h0 h1 h2
  iapply ((sound_body m K c).trans (wp_mono _ _ _ fun _ => leaves_post m c))
  iapply (to_signals m K c)
  isplitl [Hg Hcr]
  · isplitl [Hg]; · iexact Hg
    iexact Hcr
  isplitl [Hscr]; · iexact Hscr
  isplitl [HO]; · unfold OwesE; iexists W; iexact HO
  isplitr [Ho]
  · isplitl [Hx]; · iexact Hx
    isplitl [Hi]; · iexact Hi
    iexact Hw
  iexists f3; iexact Ho

end Cert.Gather

end
-- ==== Proof.Launch.lean ====
/-
  The launch: the cells and tokens dealt to the 32 devices, the credits of what is owed, and the run of the whole program.
-/
module

public import proofs.«01_k».proof.Proof.Body
public import Idealize.ShloMosaic.Lib.Pipeline.CollectiveSegs

@[expose] public section

noncomputable section

namespace Cert.Gather

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The cells and the tokens -/

/-- A family over a device's cells: the barrier's, the send cells', the receive cells'. -/
theorem bigSep_cells (Φ : CI → sProp 𝕄) : bigSep Finset.univ Φ
    = iprop(Φ (.inl ()) ∗ (bigSep Finset.univ fun i => Φ (.inr (.inl i))) ∗ bigSep Finset.univ fun i => Φ (.inr (.inr i))) := by
  rw [BI.bigSep_univ_sum, BI.bigSep_univ_sum]
  have h : (Finset.univ : Finset Unit) = {()} := rfl
  rw [h, bigSep_singleton]; rfl

/-- A family over two indices may be conjoined in either order. -/
theorem bigSep_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), ← bigSep_univ_prod (fun x : B × A => Φ x.2 x.1)]
  exact bigSep_univ_equiv (Equiv.prodComm B A) (fun x : A × B => Φ x.1 x.2)

def theCells : Finset (GSem nD τ sig) := Finset.univ.map ⟨kcell, kcell_inj⟩

/-- The duties of a device's own cells: 31 at its barrier, one at each end of a copy. -/
abbrev tokOf (cj : Dev nD × (Fin 31 ⊕ (Fin 31 ⊕ Fin 31))) : GSem nD τ sig × ℕ × Fin 31 := match cj.2 with
  | .inl d => (barCell cj.1, 0, d)
  | .inr x => (kcell (cj.1, .inr x), 0, 0)
theorem tokOf_inj : Function.Injective tokOf := by
  rintro ⟨c, x | x⟩ ⟨c', y | y⟩ h
  · have h1 := kcell_inj (congrArg Prod.fst h)
    have h2 : x = y := congrArg (fun t => t.2.2) h
    rw [h2, show c = c' from (Prod.ext_iff.mp h1).1]
  · exact absurd (Prod.ext_iff.mp (kcell_inj (congrArg Prod.fst h))).2 Sum.inl_ne_inr
  · exact absurd (Prod.ext_iff.mp (kcell_inj (congrArg Prod.fst h))).2 Sum.inr_ne_inl
  · have h1 := Prod.ext_iff.mp (kcell_inj (congrArg Prod.fst h))
    rw [show c = c' from h1.1, Sum.inr_injective (show Sum.inr x = Sum.inr y from h1.2)]
def theToks : Finset (GSem nD τ sig × ℕ × Fin 31) := Finset.univ.map ⟨tokOf, tokOf_inj⟩

/-- The launch's ghost element: the pipeline's, and the gather's. -/
def u₀ : UU := (initOf (Pipeline.cells cfgs cellOf_inj) (Pipeline.launchToks cfgs cellOf_inj), initOf theCells theToks)

/-- The tokens of the duties of device `c`'s own cells. -/
def ownToks (c : Dev nD) : sProp 𝕄 :=
  iprop((bigSep Finset.univ fun d => dutyTok ER (barCell c) 0 d) ∗ (bigSep Finset.univ fun i => dutyTok ER (sendCell c i) 0 0)
    ∗ bigSep Finset.univ fun i => dutyTok ER (recvCell c i) 0 0)

/-- What the launch deals device `c`. -/
def G (c : Dev nD) : sProp 𝕄 :=
  iprop((bigSep Finset.univ fun k : CI => roundState ER (rd m) (kcell (c, k)) 0)
    ∗ ((bigSep Finset.univ fun k : CI => atPos ER (kcell (c, k)) 0 ∅ 0) ∗ bigSep Finset.univ fun k : CI => reached ER (kcell (c, k)) 0) ∗ ownToks c)
/-- What becomes of it once every cell's invariant stands. -/
def G' (c : Dev nD) : sProp 𝕄 := iprop(∃ K, ghost m K c)

theorem fund_cells : BI.own (ER (initOf theCells theToks)) ⊢ (|==> bigSep Finset.univ (G m) : sProp 𝕄) := by
  have hX (Φ : GSem nD τ sig → sProp 𝕄) : bigSep theCells Φ = bigSep Finset.univ fun c : Dev nD => bigSep Finset.univ fun k : CI => Φ (kcell (c, k)) := by
    unfold theCells; rw [bigSep_map, bigSep_univ_prod]; rfl
  have hT : bigSep theToks (fun x => (dutyTok ER x.1 x.2.1 x.2.2 : sProp 𝕄)) = bigSep Finset.univ fun c : Dev nD => ownToks c := by
    unfold theToks; rw [bigSep_map, bigSep_univ_prod]
    exact bigSep_congr fun c _ => by unfold ownToks; rw [BI.bigSep_univ_sum, BI.bigSep_univ_sum]; rfl
  iintro HX
  imod (Rounds.fund ER (rd m) theCells theToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants -/

theorem ownSems0_eq (c : Dev nD) : (Pipeline.ownSems0 (Ix := Unit) (Name := ℕ) (U := UU) (Lvl := ℕ) (Val := Elt F) (τ := τ) osem c : sProp 𝕄)
    = iprop((bigSep Finset.univ fun i => semVal (sendCell c i) 0) ∗ bigSep Finset.univ fun i => semVal (recvCell c i) 0) := by
  unfold Pipeline.ownSems0; rw [BI.bigSep_univ_sum]; rfl
/-- The barrier's semaphore is the one that no kernel scopes. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ ((bigSep Finset.univ fun k : CI => atPos ER (kcell (c, k)) 0 ∅ 0) ∗ bigSep Finset.univ fun k : CI => reached ER (kcell (c, k)) 0) ∗ ownToks c) := by
  unfold G
  rw [ownSems0_eq, unscopedSems0_eq]
  iintro ⟨⟨HS, HV⟩, HB, Hst, Hat, Htok⟩
  ihave Hv := (Entails.of_eq (bigSep_cells (fun k => semVal (kcell (c, k)) 0)).symm) $$ [HS HV HB]
  · isplitl [HB]; · iexact HB
    isplitl [HS] <;> iassumption
  imod (show iprop((bigSep Finset.univ fun k : CI => semVal (kcell (c, k)) 0) ∗ bigSep Finset.univ fun k : CI => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat] <;> iassumption

/-- The tokens go to the devices that pay: a barrier's and a receive cell's to the peer whose signal or copy number it is. -/
theorem toks_around : (bigSep Finset.univ fun c : Dev nD => (ownToks c : sProp 𝕄)) ⊢ bigSep Finset.univ fun c : Dev nD => tokens c := by
  have hbar : (bigSep Finset.univ fun c : Dev nD => bigSep Finset.univ fun d => (dutyTok ER (barCell c) 0 d : sProp 𝕄))
      = bigSep Finset.univ fun c : Dev nD => bigSep Finset.univ fun i => dutyTok ER (barCell (peer c i)) 0 i.rev := by
    rw [bigSep_swap, bigSep_swap (fun (c : Dev nD) (i : Fin 31) => (dutyTok ER (barCell (peer c i)) 0 i.rev : sProp 𝕄)),
      bigSep_univ_equiv Fin.revPerm]
    exact bigSep_congr fun i _ => bigSep_univ_equiv (around i) (fun c => (dutyTok ER (barCell c) 0 i.rev : sProp 𝕄))
  have hrecv : (bigSep Finset.univ fun c : Dev nD => bigSep Finset.univ fun i => (dutyTok ER (recvCell c i) 0 0 : sProp 𝕄))
      = bigSep Finset.univ fun c : Dev nD => bigSep Finset.univ fun i => dutyTok ER (recvCell (peer c i) i) 0 0 := by
    rw [bigSep_swap, bigSep_swap (fun (c : Dev nD) (i : Fin 31) => (dutyTok ER (recvCell (peer c i) i) 0 0 : sProp 𝕄))]
    exact bigSep_congr fun i _ => bigSep_univ_equiv (around i) (fun c => (dutyTok ER (recvCell c i) 0 0 : sProp 𝕄))
  unfold ownToks tokens
  simp only [bigSep_sep']
  rw [hbar, hrecv]

theorem with_records (K : Dev nD × CI → ℕ) {Φ Ψ : Dev nD → sProp 𝕄} (h : ∀ c, iprop(records m K ∗ Φ c) ⊢ Ψ c) :
    iprop(records m K ∗ bigSep Finset.univ Φ) ⊢ bigSep Finset.univ Ψ :=
  (sep_mono_left (BI.bigSep_of_persistent Finset.univ (records m K))).trans (by rw [← bigSep_sep']; exact bigSep_mono fun c _ => h c)

theorem regroup :
    (bigSep Finset.univ fun c : Dev nD => iprop((bigSep Finset.univ fun k => iprop(∃ κ : ℕ, cellInv ER (rd m) κ (kcell (c, k))))
          ∗ ((bigSep Finset.univ fun k : CI => atPos ER (kcell (c, k)) 0 ∅ 0) ∗ bigSep Finset.univ fun k : CI => reached ER (kcell (c, k)) 0) ∗ ownToks c) : sProp 𝕄)
      ⊢ bigSep Finset.univ (G' m) := by
  rw [bigSep_sep', bigSep_sep', bigSep_sep', ← bigSep_univ_prod (fun ck : Dev nD × CI => iprop(∃ κ : ℕ, cellInv ER (rd m) κ (kcell ck))),
    ← bigSep_univ_prod (fun ck : Dev nD × CI => (reached ER (kcell ck) 0 : sProp 𝕄))]
  iintro ⟨HI, ⟨Hat, HR⟩, Htok⟩
  ihave HK := (BI.bigSep_exists_pi Finset.univ (fun (ck : Dev nD × CI) (κ : ℕ) => (cellInv ER (rd m) κ (kcell ck) : sProp 𝕄))) $$ HI
  icases HK with ⟨%K, HI⟩
  ihave Htk := (toks_around (F := F)) $$ Htok
  iapply (with_records m K (Φ := fun c => iprop((bigSep Finset.univ fun k : CI => atPos ER (kcell (c, k)) 0 ∅ 0) ∗ tokens c)) fun c => by
    unfold G' ghost positions
    rw [bigSep_cells]
    iintro ⟨Hr, Ha, Ht⟩
    iexists K
    isplitl [Hr]; · iexact Hr
    isplitl [Ha] <;> iassumption)
  isplitl [HI HR]
  · unfold records
    isplitl [HI] <;> iassumption
  rw [bigSep_sep']
  isplitl [Hat] <;> iassumption

/-- The semaphores of all devices at once become the cells' invariants. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits of what is owed -/

theorem sum_tally (cell : Fin 31 → GSem nD τ sig) (n : ℕ) (g : GSem nD τ sig) :
    (∑ i ∈ later 0, (tallyAt (cell i) () n : CellTallies nD τ sig Unit)) g () = ∑ i : Fin 31, if g = cell i then n else 0 := by
  rw [Finset.sum_apply, Finsupp.finset_sum_apply, later_zero]
  exact Finset.sum_congr rfl fun i _ => by rw [tallyAt_apply]; simp

theorem kcell_eq_iff {c c' : Dev nD} {x y : CI} : Iff (kcell (c, x) = kcell (c', y)) (c = c' ∧ x = y) :=
  ⟨fun h => Prod.ext_iff.mp (kcell_inj h), fun h => by rw [h.1, h.2]⟩

/-- A device's barrier is owed a unit by each of its peers; -/
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same]
  have h (d : Dev nD) : O₀ d (barCell c) () = ∑ i : Fin 31, if d = (around i).symm c then 1 else 0 := by
    unfold O₀ OR OS
    rw [Pi.add_apply, Finsupp.add_apply, sum_tally, sum_tally, Finset.sum_eq_zero fun i _ => if_neg fun h => by
      exact Sum.inl_ne_inr (kcell_eq_iff.mp h).2, zero_add]
    refine Finset.sum_congr rfl fun i _ => if_congr ?_ rfl rfl
    rw [Equiv.eq_symm_apply]
    exact ⟨fun h => (kcell_eq_iff.mp h).1.symm, fun h => by rw [← h]; rfl⟩
  simp only [h]
  rw [Finset.sum_comm]
  simp

/-- its receive cell `k` is owed one copy's credit, by the peer whose copy `k` it is. -/
theorem launch_recv (c : Dev nD) (k : Fin 31) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same]
  have h (d : Dev nD) : O₀ d (recvCell c k) () = if d = (around k).symm c then N else 0 := by
    unfold O₀ OR OS
    rw [Pi.add_apply, Finsupp.add_apply, sum_tally, sum_tally, Finset.sum_eq_zero (f := fun i => if recvCell c k = barCell (peer d i) then 1 else 0) fun i _ => if_neg fun h => by
      exact Sum.inr_ne_inl (kcell_eq_iff.mp h).2, add_zero, Finset.sum_eq_single k (fun i _ hi => if_neg fun h => hi
        (Sum.inr_injective (Sum.inr_injective (kcell_eq_iff.mp h).2)).symm) (fun h => absurd (Finset.mem_univ k) h)]
    refine if_congr ?_ rfl rfl
    rw [Equiv.eq_symm_apply]
    exact ⟨fun h => (kcell_eq_iff.mp h).1.symm, fun h => by rw [← h]; rfl⟩
  simp only [h]
  simp

theorem creds (c : Dev nD) :
    (Pipeline.launchCred O₀ c : sProp 𝕄) ⊢ iprop(cred (tallyAt (barCell c) () 31) ∗ bigSep Finset.univ fun i => cred (tallyAt (recvCell c i) () N)) := by
  unfold Pipeline.launchCred
  have hsub : (Finset.univ.map ⟨csem, csem_inj⟩ : Finset (SemLoc sig)) ⊆ Finset.univ := Finset.subset_univ _
  have hcells := bigSep_cells (F := F) (fun k => cred (tallyOn (kcell (c, k)) (launchCredit (Pipeline.owing O₀) 0 (kcell (c, k)))))
  rw [launch_bar] at hcells
  simp only [launch_recv] at hcells
  rw [BI.bigSep_sdiff_split hsub, bigSep_map]
  refine (sep_mono_left (Entails.of_eq hcells)).trans ?_
  iintro ⟨⟨HB, -, HV⟩, -⟩
  isplitl [HB] <;> iassumption

/-! ## The launch theorem's side conditions -/

/-- A device's second argument, which the kernel takes no part of. -/
def unread (c : Dev nD) : sProp 𝕄 := ((c : Thread nD τ).loc main_arg1) ↦{fullShare} m ((c : Thread nD τ).loc main_arg1)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ unread m c) := by
  have hu : (Pipeline.unscopedRestP Pipeline.Prefetch.none cfg0.spec c (fun b => m ((c : Thread nD τ).loc b)) : sProp 𝕄) = unread m c :=
    Pipeline.unscopedRestP_eq_of_list _ _ Pipeline.Prefetch.none (fun b => m ((c : Thread nD τ).loc b)) [main_arg1] (by decide +kernel) (by decide)
  rw [hu]
  iintro ⟨Hu, Hlev, Hcr, -, HG⟩
  ihave Hc := (creds (F := F) c) $$ Hcr
  icases Hc with ⟨H1, HN⟩
  imodintro
  unfold start G'
  isplitr [Hu]
  · isplitl [HG]; · iexact HG
    isplitl [H1]; · iexact H1
    isplitl [HN]; · iexact HN
    iexact Hlev
  · iexact Hu

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl, scopedRest0_eq, ownSems0_eq, unscopedSems0_eq]
  unfold Φ₁
  iintro ⟨Hc, Hs, HB, HS, HV⟩
  isplitl [HB]; · iexact HB
  isplitl [HS HV]
  · isplitl [HS] <;> iassumption
  isplitl [Hc] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rcases t with ⟨_ | _, ht⟩
      · exact Or.inl rfl
      · exact Or.inr rfl)

theorem share_eq (c : Dev nD) (w : Fin cfg0.W) : (dats m 0 c).share w = fullShare := by unfold Dat.share; split <;> rfl

/-! ## The run -/

/-- Device `c`'s array of window `w` after the run. -/
def finalA (c : Dev nD) (w : Fin cfg0.W) : Buf (Elt F) ((cfg0.win w).arr.view.loc (c : Thread nD τ)) := (dats m 0 c).arrAt w cfg0.N

/-- What the end of the run says of a device beside its windows: its unread argument is what it was, its counters are zero. -/
def atEnd (c : Dev nD) (s : MemSt nD τ sig (Elt F)) : Prop :=
  s.mem ((c : Thread nD τ).loc main_arg1) = m ((c : Thread nD τ).loc main_arg1)
    ∧ ∀ sm : SemLoc sig, sm.isScoped .tc = false → s.sem ((c.tc : Thread nD τ), sm) = 0

theorem read_end (c : Dev nD) (s' : Phys nD τ sig (Elt F)) :
    iprop(unscopedSems0 c ∗ unread m c ∗ SI s') ⊢ |={Set.univ}=> iprop(⌜atEnd m c s'.mem⌝ ∗ SI s' : sProp 𝕄) := by
  unfold unread
  iintro ⟨Hu, Hz, HSI⟩
  icombine HSI Hz gives %h
  imod (Pipeline.unscopedSems0_read (X := unscopedSems0 c) (c := c) fupd_intro s') $$ [Hu HSI] with ⟨%h', HSI⟩
  · isplitl [Hu] <;> iassumption
  imodintro
  isplitr
  · ipureintro; exact ⟨funext fun i => h i (Finset.mem_univ i), h'⟩
  iexact HSI

set_option maxRecDepth 16000 in
/-- From any memory with zero counters every weakly fair execution of the program on 32 devices ends; at its end every device's
    arrays are as the pipeline computes them, its unread argument is what it was, and every counter is zero. -/
theorem run_main : θ_run defs (onTc (τ := τ) (main (F := F))) ⟨m, fun _ => 0, ρ⟩ (fun r =>
    (∀ c : Dev nD, (∀ w : Fin cfg0.W, r.2.mem ((cfg0.win w).arr.view.loc (c : Thread nD τ)) = finalA m c w)
      ∧ r.2.mem ((c : Thread nD τ).loc main_arg1) = m ((c : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => block_pos0 w) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := unread m)
    (hX := start_intro m ρ) (hin := phi0_intro m) (hout := phi1_exit m)
    (QY := atEnd m) (hY := read_end m)
    (hQ := fun _ h hs => ⟨fun c => ⟨fun w => (h c).1 w, (h c).2.2.1⟩, sem_eq_zero hs fun c => (h c).2.2.2⟩)

/-- An argument's array is what it was. -/
theorem finalA_in (c : Dev nD) (w : Fin cfg0.W) (h : (cfg0.win w).isOut = false) : finalA m c w = m ((cfg0.win w).arr.view.loc (c : Thread nD τ)) :=
  (dats (F := F) m 0 c).arrAt_in w h _

end Cert.Gather

end
-- ==== Proof.Frames.lean ====
/-
  The frames: the kernel as printed and as idealized, and the reference, end with their arguments as they were and every
  counter at zero.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.Gather

open Idealize.ShloMosaic Idealize.SL.Sem

variable {F : FTy → Type} [FloatOps F]

section Run
open Cert.KernelIdeal

/-- The program's run, read at its arguments and its result. -/
theorem run_args (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_v1) = finalA m c (3 : Fin 4))
      ∧ r.2.sem = fun _ => 0) :=
  (θ_run defs _ _).mono (fun _ h => ⟨fun c => ⟨((h.1 c).1 (0 : Fin 4)).trans (finalA_in m c 0 rfl), (h.1 c).2,
    ((h.1 c).1 (1 : Fin 4)).trans (finalA_in m c 1 rfl), ((h.1 c).1 (2 : Fin 4)).trans (finalA_in m c 2 rfl), (h.1 c).1 (3 : Fin 4)⟩, h.2⟩)
    (run_main m ρ)

/-- The program's run leaves its arguments and every counter as they were. -/
theorem run_frame (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0) :=
  (θ_run defs _ _).mono (fun _ h => ⟨fun c => ⟨(h.1 c).1, (h.1 c).2.1, (h.1 c).2.2.1, (h.1 c).2.2.2.1⟩, h.2⟩) (run_args m ρ)

end Run

/-- The idealized kernel's frame. -/
theorem frame_ideal : Cert.quiescent_KernelIdeal (hKernelIdeal := Cert.KernelIdeal.Gen.facts) := fun m ρ _ => run_frame (F := Ideal) m ρ

section Same

local instance : Cert.Kernel.Facts := Cert.Kernel.Gen.facts
local instance : Cert.KernelIdeal.Facts := Cert.KernelIdeal.Gen.facts

/-- The printed kernel's body table is the idealized one's. -/
theorem bodies_same : (Cert.Kernel.defs₀ (F := F)) = Cert.KernelIdeal.defs₀ := by
  refine congrArg Defs.onTc (funext fun l => funext fun x => ?_)
  match l, x with
  | 0, (_, _) => rfl

/-- The printed kernel's table of labels is the idealized one's. -/
theorem tables_same : (Cert.Kernel.defs (F := F)) = Cert.KernelIdeal.defs := congrArg (Pipeline.defs _) bodies_same

end Same

/-- The printed kernel's frame, at the machine's own float values: the two programs are the same text. -/
theorem frame_kernel : Cert.quiescent_Kernel (hKernel := Cert.Kernel.Gen.facts) := by
  intro m ρ _
  rw [tables_same]
  exact run_frame (F := Bits) m ρ

/-- The reference's frame. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run (F := Ideal) m ρ)

end Cert.Gather

end
-- ==== Proof.Spec.lean ====
/-
  What the layer computes, as mathematics: a token's place among the tokens of its expert, and the token's row of the
  result. The counting facts by which a token is found again from its expert and its place.
-/
module

public import Idealize.ShloMosaic.Lib.Pointwise

@[expose] public section

noncomputable section

namespace Cert.Gather

open Idealize.ShloMosaic
open scoped BigOperators

/-- The experts that the 256 tokens choose, as the programs are given them. -/
abbrev Choices := (⟨2, ![256, 1]⟩ : Shape).Idx → BitVec 32

/-- How many of the tokens up to and including token `i` choose the expert `v`. -/
def place (iv : Choices) (v : BitVec 32) (i : Fin 256) : ℕ := (Finset.univ.filter fun k : Fin 256 => k.val ≤ i.val ∧ iv (ix2 k 0) = v).card

/-- How many of the tokens before token `i` choose token `i`'s expert. -/
def earlier (iv : Choices) (i : Fin 256) : ℕ := (Finset.univ.filter fun k : Fin 256 => iv (ix2 k 0) = iv (ix2 i 0) ∧ k.val < i.val).card

/-- No more tokens are counted than there are. -/
theorem place_le (iv : Choices) (v : BitVec 32) (i : Fin 256) : place iv v i ≤ 256 := by
  have h := Finset.card_filter_le (Finset.univ : Finset (Fin 256)) fun k => k.val ≤ i.val ∧ iv (ix2 k 0) = v
  rwa [Finset.card_univ, Fintype.card_fin] at h

/-- A token is counted at its own place. -/
theorem place_pos {iv : Choices} {v : BitVec 32} {i : Fin 256} (h : iv (ix2 i 0) = v) : 1 ≤ place iv v i :=
  Finset.card_pos.2 ⟨i, Finset.mem_filter.2 ⟨Finset.mem_univ _, le_refl _, h⟩⟩

/-- Of two tokens of one expert the later has the greater place. -/
theorem place_lt {iv : Choices} {v : BitVec 32} {i j : Fin 256} (hj : iv (ix2 j 0) = v) (h : i.val < j.val) : place iv v i < place iv v j := by
  refine Finset.card_lt_card ⟨fun k hk => ?_, fun hs => ?_⟩
  · obtain ⟨_, h1, h2⟩ := Finset.mem_filter.1 hk
    exact Finset.mem_filter.2 ⟨Finset.mem_univ _, by omega, h2⟩
  · have := (Finset.mem_filter.1 (hs (Finset.mem_filter.2 ⟨Finset.mem_univ j, le_refl _, hj⟩))).2.1
    omega

/-- A token is found from its expert and its place. -/
theorem place_inj {iv : Choices} {v : BitVec 32} {i j : Fin 256} (hi : iv (ix2 i 0) = v) (hj : iv (ix2 j 0) = v)
    (h : place iv v i = place iv v j) : i = j := by
  rcases Nat.lt_trichotomy i.val j.val with hl | he | hl
  · have := place_lt hj hl; omega
  · exact Fin.ext he
  · have := place_lt hi hl; omega

/-- A token's place is one more than the number of the tokens before it that choose its expert. -/
theorem place_self (iv : Choices) (i : Fin 256) : place iv (iv (ix2 i 0)) i = earlier iv i + 1 := by
  unfold place earlier
  rw [← Finset.card_insert_of_notMem (a := i) (s := Finset.univ.filter fun k : Fin 256 => iv (ix2 k 0) = iv (ix2 i 0) ∧ k.val < i.val)
    (fun h => by have := (Finset.mem_filter.1 h).2.2; omega)]
  congr 1
  ext k
  simp only [Finset.mem_filter, Finset.mem_univ, true_and, Finset.mem_insert]
  constructor
  · rintro ⟨h1, h2⟩
    rcases Nat.lt_or_ge k.val i.val with h | h
    · exact .inr ⟨h2, h⟩
    · exact .inl (Fin.ext (by omega))
  · rintro (rfl | ⟨h1, h2⟩)
    · exact ⟨le_refl _, rfl⟩
    · exact ⟨by omega, h1⟩

/-- The layer: a token's row is its product with its expert's matrix if it is among the first three tokens of the expert, and
    zero if not. -/
def layer (x : (⟨2, ![256, 128]⟩ : Shape).Idx → EReal) (iv : Choices) (W : (⟨3, ![64, 128, 256]⟩ : Shape).Idx → EReal) (i o : Fin 256) : EReal :=
  if earlier iv i < 3 then ∑ d : Fin 128, x (ix2 i d) * W (ix3 ⟨(iv (ix2 i 0)).toNat % 64, Nat.mod_lt _ (by decide)⟩ d o) else 0

/-- The number that a truth value is as a float. -/
theorem float_bit (b : BitVec 1) : (FloatOps.sitofp (F := Ideal) .f32 (b.setWidth 32) : EReal) = if b = 1#1 then 1 else 0 := by
  rcases BitVec.eq_zero_or_eq_one b with rfl | rfl
  · show (((((0#1).setWidth 32).toInt : ℤ) : ℝ) : EReal) = _
    rw [if_neg (by decide), show ((0#1).setWidth 32).toInt = 0 by decide]; norm_num
  · show (((((1#1).setWidth 32).toInt : ℤ) : ℝ) : EReal) = _
    rw [if_pos rfl, show ((1#1).setWidth 32).toInt = 1 by decide]; norm_num

/-- The sum of the products of two truth values is the number of the places where both hold. -/
theorem sum_bits {n : ℕ} (p q : Fin n → Prop) [DecidablePred p] [DecidablePred q] :
    (∑ k : Fin n, (if p k then (1 : EReal) else 0) * (if q k then 1 else 0)) = ((Finset.univ.filter fun k => p k ∧ q k).card : EReal) := by
  rw [Finset.card_filter]
  push_cast
  refine Finset.sum_congr rfl fun k _ => ?_
  by_cases h1 : p k <;> by_cases h2 : q k <;> simp [h1, h2]

/-- A natural number as a float and back as a word. -/
theorem word_nat {n : ℕ} (h : n ≤ 256) : (FloatOps.fptosi (F := Ideal) (φ := .f32) 32 ((n : EReal)) : BitVec 32) = BitVec.ofNat 32 n := by
  show BitVec.ofInt 32 (Ideal.toIntClamped _ _ ((n : ℝ) : EReal)) = _
  show BitVec.ofInt 32 (max _ (min _ (if 0 ≤ (n : ℝ) then ⌊(n : ℝ)⌋ else ⌈(n : ℝ)⌉))) = _
  rw [if_pos (Nat.cast_nonneg n), Int.floor_natCast]
  rw [show max (-((2 ^ (32 - 1) : ℕ) : ℤ)) (min (((2 ^ (32 - 1) : ℕ) : ℤ) - 1) (n : ℤ)) = (n : ℤ) by norm_num; omega]
  exact BitVec.ofInt_natCast ..

/-- A word is the word of its number. -/
theorem word_self (b : BitVec 32) : b = BitVec.ofNat 32 b.toNat :=
  BitVec.eq_of_toNat_eq (by rw [BitVec.toNat_ofNat, Nat.mod_eq_of_lt b.isLt])

/-- The float that the kernel compares places with is three. -/
theorem three : (Ideal.ofBits .f32 1077936128#32 : EReal) = ((3 : ℕ) : EReal) := by
  rw [show ((3 : ℕ) : EReal) = ((3 : ℝ) : EReal) by norm_cast]
  simp [Ideal.ofBits, Ideal.ieee, -EReal.coe_mul]; norm_num

end Cert.Gather

end
-- ==== Proof.KernelValue.lean ====
/-
  What the kernel's arithmetic gives, element by element, over the extended reals: the places of the tokens, the eight rows that a
  device computes for its two experts, and the choice of a row out of the gathered 256.
-/
module

public import proofs.«01_k».proof.Proof.Gen.KernelIdeal.Skeleton
public import proofs.«01_k».proof.Proof.Spec
public import Idealize.ShloMosaic.Lib.Routing.Words

@[expose] public section

set_option maxRecDepth 16384

noncomputable section

namespace Cert.Gather

open Idealize.ShloMosaic Idealize.SL.Sem
open Idealize.ShloMosaic.WordCmp
open Cert.KernelIdeal Cert.KernelIdeal.Gen

/-- The triangle of ones that the kernel counts with. -/
theorem triangle (i k : Fin 256) : k0_pay1 (F := Ideal) (ix2 i k) = if k.val ≤ i.val then 1 else 0 := by
  pointwise [k0_pay1]
  rw [float_bit]
  simp only [cmpi_sge_ofNat_eq_one_iff (w := 32) (show i.val < 2 ^ 31 by omega) (show k.val < 2 ^ 31 by omega)]

/-- The word of a device's expert: `0` is its first, `1` its second. -/
def expert (v : BitVec 32) (j : Fin 2) : BitVec 32 := IntOp.addi (IntOp.muli v 2#32) (BitVec.ofNat 32 j.val)

theorem expert_zero (v : BitVec 32) : Scalar.muli v 2#32 = expert v 0 := (BitVec.add_zero _).symm

theorem expert_one (v : BitVec 32) : Scalar.addi (Scalar.muli v 2#32) 1#32 = expert v 1 := rfl

/-- Whether a word equals another, as the float that the kernel makes of the comparison. -/
theorem float_eq (a b : BitVec 32) : (FloatOps.sitofp (F := Ideal) .f32 ((IntOp.cmpi .eq a b).setWidth 32) : EReal) = if a = b then 1 else 0 := by
  rw [float_bit, cmpi_eq_eq]
  simp only [ofBool_decide_eq_one_iff]

/-- The triangle's product with an expert's column counts the expert's tokens. -/
theorem count_column (iv : Choices) (v : BitVec 32) (i : Fin 256) :
    (∑ k : Fin 256, k0_pay1 (F := Ideal) (ix2 i k)
      * (FloatOps.sitofp (F := Ideal) .f32 ((IntOp.cmpi .eq (iv (ix2 k 0)) v).setWidth 32) : EReal)) = ((place iv v i : ℕ) : EReal) := by
  simp only [triangle, float_eq]
  exact sum_bits _ _

/-- The kernel's first column of counts. -/
theorem count_first (v : BitVec 32) (iv : Choices) (i : Fin 256) : k0_pay6 (F := Ideal) v iv (ix2 i 0) = ((place iv (expert v 0) i : ℕ) : EReal) := by
  pointwise [k0_pay6, k0_pay5, k0_pay3, k0_pay4, k0_pay2]
  rw [expert_zero]
  exact count_column iv _ i

/-- The kernel's second column of counts. -/
theorem count_second (v : BitVec 32) (iv : Choices) (i : Fin 256) : k0_pay7 (F := Ideal) v iv (ix2 i 0) = ((place iv (expert v 1) i : ℕ) : EReal) := by
  pointwise [k0_pay7, k0_pay5, k0_pay3, k0_pay4, k0_pay2]
  rw [expert_one]
  exact count_column iv _ i

/-- A token is kept by an expert when it chooses the expert and is among the expert's first three. -/
def Kept (iv : Choices) (v : BitVec 32) (i : Fin 256) : Prop := iv (ix2 i 0) = v ∧ place iv v i ≤ 3

instance (iv : Choices) (v : BitVec 32) (i : Fin 256) : Decidable (Kept iv v i) := inferInstanceAs (Decidable (_ ∧ _))

/-- A count is at most three as a float when it is as a number. -/
theorem kept_bit (iv : Choices) (v : BitVec 32) (i : Fin 256) :
    IntOp.andi (IntOp.cmpi .eq (iv (ix2 i 0)) v) (BitVec.ofBool (decide (((place iv v i : ℕ) : EReal) ≤ Ideal.ofBits .f32 1077936128#32)))
      = BitVec.ofBool (decide (Kept iv v i)) := by
  rw [cmpi_eq_eq, three, andi_ofBool]
  congr 1
  simp only [Nat.cast_le, Kept]
  exact (Bool.decide_and ..).symm

/-- The kernel's first column of kept tokens. -/
theorem kept_first (v : BitVec 32) (iv : Choices) (i : Fin 256) :
    k0_pay8 (F := Ideal) v iv (ix2 i 0) = BitVec.ofBool (decide (Kept iv (expert v 0) i)) := by
  pointwise [k0_pay8, k0_pay3, k0_pay2]
  rw [count_first, expert_zero]
  exact kept_bit iv _ i

/-- The kernel's second column of kept tokens. -/
theorem kept_second (v : BitVec 32) (iv : Choices) (i : Fin 256) :
    k0_pay9 (F := Ideal) v iv (ix2 i 0) = BitVec.ofBool (decide (Kept iv (expert v 1) i)) := by
  pointwise [k0_pay9, k0_pay4, k0_pay2]
  rw [count_second, expert_one]
  exact kept_bit iv _ i

/-- A device's two experts differ. -/
theorem expert_ne (v : BitVec 32) : expert v 0 ≠ expert v 1 := fun h => absurd ((BitVec.add_right_inj _).1 h) (by decide)

/-- The row, of the eight, into which a token is put: `some` of it for a kept token. -/
def slot (iv : Choices) (v : BitVec 32) (t : Fin 256) : BitVec 32 :=
  if Kept iv (expert v 0) t then BitVec.ofNat 32 (place iv (expert v 0) t - 1)
  else if Kept iv (expert v 1) t then BitVec.ofNat 32 (place iv (expert v 1) t + 2) else 4294967295#32

/-- The token whose place in the expert `j` belongs to row `s` is the only one put there. -/
theorem slot_iff {iv : Choices} {v : BitVec 32} {j : Fin 2} {t : Fin 256} {s : Fin 8} (h : Kept iv (expert v j) t)
    (hs : s.val + 1 = place iv (expert v j) t + 3 * j.val) (t' : Fin 256) : slot iv v t' = BitVec.ofNat 32 s.val ↔ t' = t := by
  have pos := place_pos h.1
  have le := h.2
  have word : ∀ {a : ℕ}, a < 8 → (BitVec.ofNat 32 a = BitVec.ofNat 32 s.val ↔ a = s.val) := fun ha =>
    ⟨fun e => by have := congrArg BitVec.toNat e; simp only [BitVec.toNat_ofNat] at this; omega, fun e => by rw [e]⟩
  have none : ∀ s : Fin 8, ¬ (4294967295#32 = BitVec.ofNat 32 s.val) := by decide
  have other : ∀ {j' : Fin 2}, Kept iv (expert v j') t' → t' = t → j' = j := fun {j'} h' e => by
    have e1 : expert v j' = expert v j := h'.1.symm.trans (e ▸ h.1)
    match j', j, e1 with
    | 0, 0, _ => rfl
    | 1, 1, _ => rfl
    | 0, 1, e1 => exact absurd e1 (expert_ne v)
    | 1, 0, e1 => exact absurd e1.symm (expert_ne v)
  unfold slot
  split_ifs with h0 h1
  · have pos0 := place_pos h0.1
    have le0 := h0.2
    rw [word (by omega)]
    refine ⟨fun e => ?_, fun e => ?_⟩
    · have hj : j = 0 := Fin.ext (show j.val = 0 by omega)
      subst hj
      exact place_inj h0.1 h.1 (by simp only [Fin.val_zero] at hs; omega)
    · have hj := other h0 e
      subst hj; subst e
      simp only [Fin.val_zero] at hs
      omega
  · have pos1 := place_pos h1.1
    have le1 := h1.2
    rw [word (by omega)]
    refine ⟨fun e => ?_, fun e => ?_⟩
    · have hj : j = 1 := Fin.ext (show j.val = 1 by omega)
      subst hj
      exact place_inj h1.1 h.1 (by simp only [Fin.val_one] at hs; omega)
    · have hj := other h1 e
      subst hj; subst e
      simp only [Fin.val_one] at hs
      omega
  · refine ⟨fun e => absurd e (none s), fun e => ?_⟩
    subst e
    match j, h with
    | 0, h => exact absurd h h0
    | 1, h => exact absurd h h1

/-- The kernel computes the slot of each token. -/
theorem slot_word (v : BitVec 32) (iv : Choices) (t : Fin 256) :
    Scalar.select (k0_pay8 (F := Ideal) v iv (ix2 t 0)) (IntOp.subi (FloatOps.fptosi (F := Ideal) (φ := .f32) 32 (k0_pay6 (F := Ideal) v iv (ix2 t 0))) 1#32)
      (Scalar.select (k0_pay9 (F := Ideal) v iv (ix2 t 0)) (IntOp.addi (FloatOps.fptosi (F := Ideal) (φ := .f32) 32 (k0_pay7 (F := Ideal) v iv (ix2 t 0))) 2#32)
        4294967295#32) = slot iv v t := by
  rw [kept_first, kept_second, count_first, count_second, word_nat (place_le ..), word_nat (place_le ..), select_decide, select_decide]
  unfold slot
  by_cases h0 : Kept iv (expert v 0) t
  · have pos0 := place_pos h0.1
    have le0 := h0.2
    rw [if_pos h0, if_pos h0]
    generalize place iv (expert v 0) t = n at pos0 le0 ⊢
    interval_cases n <;> rfl
  · rw [if_neg h0, if_neg h0]
    split_ifs
    · exact addi_ofNat ..
    · rfl

/-- A token's product with an expert's matrix, when a bit says whether it is to count. -/
theorem product_bit {x : (⟨2, ![256, 128]⟩ : Shape).Idx → EReal} {w : (⟨3, ![2, 128, 256]⟩ : Shape).Idx → EReal} (p : Prop) [Decidable p]
    (t : Fin 256) (j : Fin 2) (o : Fin 256) :
    (∑ d : Fin 128, x (ix2 t d) * (FloatOps.sitofp (F := Ideal) .f32 ((BitVec.ofBool (decide p)).setWidth 32) : EReal) * w (ix3 j d o))
      = if p then ∑ d : Fin 128, x (ix2 t d) * w (ix3 j d o) else 0 := by
  rw [float_bit]
  simp only [ofBool_decide_eq_one_iff]
  split_ifs <;> simp

/-- The row of a kept token holds the token's product with its expert's matrix. -/
theorem row_value {v : BitVec 32} {iv : Choices} {j : Fin 2} {t : Fin 256} {s : Fin 8} (h : Kept iv (expert v j) t)
    (hs : s.val + 1 = place iv (expert v j) t + 3 * j.val) (x : FVec Ideal S256x128 .bf16) (w : FVec Ideal S2x128x256 .bf16) (o : Fin 256) :
    k0_pay13 (F := Ideal) (k0_pay6 (F := Ideal) v iv) (k0_pay7 (F := Ideal) v iv) (k0_pay8 (F := Ideal) v iv) (k0_pay9 (F := Ideal) v iv) x w (ix2 s o)
      = ∑ d : Fin 128, x (ix2 t d) * w (ix3 j d o) := by
  pointwise [k0_pay13, k0_pay12]
  simp only [slot_word, float_eq, slot_iff h hs]
  refine (Finset.sum_eq_single t (fun t' _ ne => ?_) fun h => absurd (Finset.mem_univ t) h).trans ?_
  · rw [if_neg ne, zero_mul]
  rw [if_pos rfl, one_mul, kept_first, kept_second, product_bit, product_bit]
  match j, h with
  | 0, h => rw [if_pos h, if_neg (fun h' => expert_ne v (h.1.symm.trans h'.1)), add_zero]
  | 1, h => rw [if_neg (fun h' => expert_ne v (h'.1.symm.trans h.1)), if_pos h, zero_add]

/-- Every token's place in its own expert, as the kernel computes it. -/
theorem own_place {iv : Choices} {i : Fin 256} (h : (iv (ix2 i 0)).toNat < 64) :
    k0_pay15 (F := Ideal) (k0_pay1 (F := Ideal)) (k0_pay2 (F := Ideal) iv) (ix2 i 0) = BitVec.ofNat 32 (earlier iv i + 1) := by
  pointwise [k0_pay15, k0_pay2]
  simp only [count_column]
  simp only [float_eq]
  have e : iv (ix2 i 0) = BitVec.ofNat 32 (iv (ix2 i 0)).toNat := word_self _
  refine (congrArg (FloatOps.fptosi (F := Ideal) (φ := .f32) 32)
    (Finset.sum_eq_single (⟨(iv (ix2 i 0)).toNat, h⟩ : Fin 64) (fun a _ ne => ?_) fun h => absurd (Finset.mem_univ _) h)).trans ?_
  · rw [if_neg fun h' => ne (Fin.ext ?_), zero_mul]
    have := congrArg BitVec.toNat h'
    rw [BitVec.toNat_ofNat, Nat.mod_eq_of_lt (by omega)] at this
    exact this.symm
  · rw [if_pos e, one_mul, ← e, word_nat (place_le ..), place_self]

/-- The row of the gathered 256 in which a token's result lies. -/
def source (e n : ℕ) : ℕ := e / 2 * 8 + e % 2 * 3 + n

/-- The kernel's choice: a one at the row of a token that is among its expert's first three, and zeros elsewhere. -/
theorem choice {iv : Choices} {i : Fin 256} (h : (iv (ix2 i 0)).toNat < 64) (r : Fin 256) :
    k0_pay16 (F := Ideal) (k0_pay2 (F := Ideal) iv) (k0_pay15 (F := Ideal) (k0_pay1 (F := Ideal)) (k0_pay2 (F := Ideal) iv)) 3#32 (ix2 i r)
      = if earlier iv i < 3 ∧ r.val = source (iv (ix2 i 0)).toNat (earlier iv i) then 1 else 0 := by
  have own := own_place h
  generalize k0_pay15 (F := Ideal) (k0_pay1 (F := Ideal)) (k0_pay2 (F := Ideal) iv) = p at own ⊢
  pointwise [k0_pay16, k0_pay2]
  have le : earlier iv i ≤ 256 := by have := place_le iv (iv (ix2 i 0)) i; rw [place_self] at this; omega
  have none : ∀ r : Fin 256, ¬ (4294967295#32 = BitVec.ofNat 32 r.val) := by decide
  rw [own, float_eq, cmpi_sle_ofNat (w := 32) (a := earlier iv i + 1) (b := 3) (by omega) (by omega), select_decide]
  have e : iv (ix2 i 0) = BitVec.ofNat 32 (iv (ix2 i 0)).toNat := word_self _
  generalize (iv (ix2 i 0)).toNat = a at h e
  generalize earlier iv i = n at le
  refine if_congr ?_ rfl rfl
  by_cases hn : n < 3
  · have word : IntOp.subi (IntOp.addi (IntOp.addi (IntOp.muli (IntOp.divsi ArithUnit.vector (BitVec.ofNat 32 a) 2#32) 8#32)
        (IntOp.muli (IntOp.remsi ArithUnit.vector (BitVec.ofNat 32 a) 2#32) 3#32)) (BitVec.ofNat 32 (n + 1))) 1#32 = BitVec.ofNat 32 (source a n) := by
      have hd := Routing.divsi_word .vector (a := a) (b := 2) (by omega) (by omega) (by omega)
      have hr := Routing.remsi_word .vector (a := a) (b := 2) (by omega) (by omega) (by omega)
      rw [hd, hr, muli_ofNat, muli_ofNat, addi_ofNat, addi_ofNat]
      show BitVec.ofNat 32 _ - BitVec.ofNat 32 1 = _
      rw [show a / 2 * 8 + a % 2 * 3 + (n + 1) = source a n + 1 by unfold source; omega, ← BitVec.ofNat_add_ofNat, BitVec.add_sub_cancel]
    have hb : source a n < 256 := by unfold source; omega
    rw [if_pos (by omega), e, word]
    constructor
    · intro h
      have := congrArg BitVec.toNat h
      simp only [BitVec.toNat_ofNat] at this
      exact ⟨hn, by omega⟩
    · rintro ⟨_, h⟩
      rw [h]
  · rw [if_neg (by omega)]
    exact ⟨fun h => absurd h (none r), fun h => absurd h.1 hn⟩

/-- The result's element out of the gathered rows: the row chosen, or zero. -/
theorem pick {iv : Choices} {i : Fin 256} (h : (iv (ix2 i 0)).toNat < 64) (g : Vec Ideal S256x256 .bf16) (o : Fin 256) :
    k0_pay17 (F := Ideal) (k0_pay16 (F := Ideal) (k0_pay2 (F := Ideal) iv)
      (k0_pay15 (F := Ideal) (k0_pay1 (F := Ideal)) (k0_pay2 (F := Ideal) iv)) 3#32) g (ix2 i o)
      = if hn : earlier iv i < 3 then g (ix2 ⟨source (iv (ix2 i 0)).toNat (earlier iv i), by unfold source; omega⟩ o) else (0 : EReal) := by
  pointwise [k0_pay17]
  simp only [choice h]
  split_ifs with hn
  · refine (Finset.sum_eq_single ⟨source (iv (ix2 i 0)).toNat (earlier iv i), by unfold source; omega⟩ (fun r _ ne => ?_)
      fun h => absurd (Finset.mem_univ _) h).trans ?_
    · rw [if_neg fun h' => ne (Fin.ext h'.2), zero_mul]
    · rw [if_pos ⟨hn, rfl⟩, one_mul]
  · exact Finset.sum_eq_zero fun r _ => by rw [if_neg fun h' => hn h'.1, zero_mul]

end Cert.Gather

end
-- ==== Proof.KernelResult.lean ====
/-
  What the kernel's run leaves in the result on every device: the layer of the whole arguments, when every token's expert is one of
  the 64. A token's row is computed on the device that has the token's expert, and every device picks it out of the gathered rows.
-/
module

public import proofs.«01_k».proof.Proof.Frames
public import proofs.«01_k».proof.Proof.KernelValue
public import Idealize.ShloMosaic.Lib.Pipeline.ValueKit
public import Idealize.ShloMosaic.Lib.Layout

@[expose] public section

set_option maxRecDepth 16384

noncomputable section

namespace Cert.Gather

open Idealize.ShloMosaic Idealize.SL.Sem Idealize.ShloMosaic.Pipeline
open Idealize.ShloMosaic.WordCmp
open Cert.KernelIdeal Cert.KernelIdeal.Gen

section Blocks

variable {F : FTy → Type} [FloatOps F] (m : (ℓ : Loc nD τ sig) → Buf (Elt F) ℓ)

/-- The block of the tokens is the whole argument. -/
theorem tokens_whole (c : Dev nD) : xAt m c = m ((c.tc : Thread nD τ).loc main_arg0) := by
  funext y
  refine congrArg (m ((c.tc : Thread nD τ).loc main_arg0)) (funext fun a => Fin.ext ?_)
  show ((win0_0.blk (0 : Fin 1)).view.emb y a).val = (y a).val
  blk_simp
  rw [show win0_0.index (0 : Fin 1) a = 0 by revert a; decide +kernel, Nat.zero_mul, Nat.zero_add]

/-- The block of the choices is the whole argument. -/
theorem choices_whole (c : Dev nD) : iAt m c = m ((c.tc : Thread nD τ).loc main_arg2) := by
  funext y
  refine congrArg (m ((c.tc : Thread nD τ).loc main_arg2)) (funext fun a => Fin.ext ?_)
  show ((win0_1.blk (0 : Fin 1)).view.emb y a).val = (y a).val
  blk_simp
  rw [show win0_1.index (0 : Fin 1) a = 0 by revert a; decide +kernel, Nat.zero_mul, Nat.zero_add]

/-- The block of the matrices is the device's whole argument. -/
theorem matrices_whole (c : Dev nD) : wAt m c = m ((c.tc : Thread nD τ).loc main_arg3) := by
  funext y
  refine congrArg (m ((c.tc : Thread nD τ).loc main_arg3)) (funext fun a => Fin.ext ?_)
  show ((win0_2.blk (0 : Fin 1)).view.emb y a).val = (y a).val
  blk_simp
  rw [show win0_2.index (0 : Fin 1) a = 0 by revert a; decide +kernel, Nat.zero_mul, Nat.zero_add]

/-- The result array at the end is what the body wrote. -/
theorem result_whole (c : Dev nD) : finalA m c (3 : Fin 4) = outAt m c :=
  (dats m 0 c).arrAt_eq_of_after_last 3 t0_0 (by decide +kernel) _ fun j => by
    show outAt m c _ = outAt m c _
    refine congrArg (outAt m c) (funext fun a => Fin.ext ?_)
    rfl

/-- The row of the gathered array from which a token's result is taken: a row of the device that has the token's expert. -/
theorem gathered_row {e n : ℕ} (he : e < 64) (hn : n < 3) (hr : source e n < 256) (o : Fin 256) :
    gath m (ix2 ⟨source e n, hr⟩ o)
      = rowsAt m ⟨e / 2, by show _ < 32; omega⟩ (ix2 ⟨3 * (e % 2) + n, by omega⟩ o) := by
  show rowsAt m _ (inBlock _) = _
  congr 1
  · refine Fin.ext ?_
    show source e n / 8 = e / 2
    unfold source
    omega
  · funext a
    refine Fin.ext ?_
    match a with
    | ⟨0, _⟩ =>
      show source e n % 8 = 3 * (e % 2) + n
      unfold source
      omega
    | ⟨1, _⟩ => rfl

end Blocks

/-- The position that the kernel computes for a device. -/
theorem myWord_eq (c : Dev nD) : myWord c = BitVec.ofNat 32 c.val := by
  revert c; decide +kernel

/-- The expert `e` is the expert `e % 2` of device `e / 2`. -/
theorem expert_of (e : Fin 64) : expert (BitVec.ofNat 32 (e.val / 2)) ⟨e.val % 2, Nat.mod_lt _ (by decide)⟩ = BitVec.ofNat 32 e.val := by
  revert e; decide +kernel

/-- Every device's result is the layer of the whole arguments. -/
theorem result_layer (m : (ℓ : Loc nD τ sig) → Buf (Elt Ideal) ℓ) (x : FVec Ideal S256x128 .bf16) (iv : IVec S256x1 32)
    (W : (⟨3, ![64, 128, 256]⟩ : Shape).Idx → EReal) (h : ∀ i : Fin 256, (iv (ix2 i 0)).toNat < 64)
    (hx : ∀ c : Dev nD, m ((c.tc : Thread nD τ).loc main_arg0) = x) (hi : ∀ c : Dev nD, m ((c.tc : Thread nD τ).loc main_arg2) = iv)
    (hw : ∀ c : Dev nD, m ((c.tc : Thread nD τ).loc main_arg3) = Layout.block ⟨3, ![2, 128, 256]⟩ ⟨3, ![64, 128, 256]⟩ 0 32 c W) (c : Dev nD)
    (i o : Fin 256) : outAt m c (ix2 i o) = layer x iv W i o := by
  unfold outAt
  rw [choices_whole, hi]
  refine (pick (h i) (gath m) o).trans ?_
  unfold layer
  split_ifs with hn
  swap; · rfl
  have he := h i
  rw [gathered_row m he hn]
  unfold rowsAt
  rw [choices_whole, tokens_whole, matrices_whole, hi, hx, hw, myWord_eq]
  have own : expert (BitVec.ofNat 32 ((iv (ix2 i 0)).toNat / 2)) ⟨(iv (ix2 i 0)).toNat % 2, Nat.mod_lt _ (by decide)⟩ = iv (ix2 i 0) :=
    (expert_of ⟨_, he⟩).trans (word_self _).symm
  have at_place : place iv (expert (BitVec.ofNat 32 ((iv (ix2 i 0)).toNat / 2)) ⟨(iv (ix2 i 0)).toNat % 2, Nat.mod_lt _ (by decide)⟩) i = earlier iv i + 1 := by
    rw [own, place_self]
  unfold k0_pay10 k0_pay11
  rw [shapeCast_self, shapeCast_self]
  refine (row_value (t := i) (j := ⟨(iv (ix2 i 0)).toNat % 2, Nat.mod_lt _ (by decide)⟩) ⟨own.symm, by rw [at_place]; omega⟩ ?_ x _ o).trans ?_
  · rw [at_place]
    show 3 * ((iv (ix2 i 0)).toNat % 2) + earlier iv i + 1 = earlier iv i + 1 + 3 * ((iv (ix2 i 0)).toNat % 2)
    omega
  · refine Finset.sum_congr rfl fun d _ => congrArg (@HMul.hMul EReal EReal EReal _ (x (ix2 i d))) ?_
    rw [Layout.block_apply]
    refine congrArg W (funext fun a => Fin.ext ?_)
    rw [Layout.Tiles.idx_val]
    match a with
    | ⟨0, _⟩ =>
      show (iv (ix2 i 0)).toNat / 2 * 2 + (iv (ix2 i 0)).toNat % 2 = (iv (ix2 i 0)).toNat % 64
      omega
    | ⟨1, _⟩ => rfl
    | ⟨2, _⟩ => rfl

end Cert.Gather

end
-- ==== Proof.ReferenceValue.lean ====
/-
  What the reference computes: the layer, at every element, when every token's expert is one of the 64.
-/
module

public import proofs.«01_k».proof.Proof.Gen.ReferenceIdeal.Run
public import proofs.«01_k».proof.Proof.Spec
public import Idealize.ShloMosaic.Lib.IndicatorCount
public import Idealize.ShloMosaic.Lib.WordCmp

@[expose] public section

set_option maxRecDepth 16384

noncomputable section

namespace Cert.Gather

open Idealize.ShloMosaic Idealize.SL.Sem
open Idealize.ShloMosaic.WordCmp
open Cert.ReferenceIdeal Cert.ReferenceIdeal.Gen

/-- The choice of one matrix per token: the matrix of the expert that the token's word names. -/
theorem matrix_of {α : Type} (W : S64x128x256.Idx → α) (idx : IVec S256x1 32) (i : Fin 256) (d : Fin 128) (o : Fin 256)
    (h : (idx (ix2 i 0)).toNat < 64) :
    Host.gather gather_S64x128x256_S256x1_S256x128x256_12_0_n_n_0_1_1128256 W idx (ix3 i d o)
      = W (ix3 ⟨(idx (ix2 i 0)).toNat % 64, Nat.mod_lt _ (by decide)⟩ d o) := by
  unfold Host.gather
  refine congrArg W (funext fun a => Fin.ext ?_)
  match a with
  | ⟨0, _⟩ =>
    show GatherDims.start _ _ idx 0 + GatherDims.batchCoord _ _ 0 + GatherDims.offCoord _ _ 0 = (idx (ix2 i 0)).toNat % 64
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (0 : Fin 3) ∈ gather_S64x128x256_S256x1_S256x128x256_12_0_n_n_0_1_1128256.startIndexMap from List.mem_singleton.mpr rfl)]
    have hi : ∀ k, GatherDims.siIdx gather_S64x128x256_S256x1_S256x128x256_12_0_n_n_0_1_1128256 (ix3 i d o) k = ix2 i 0 := fun k => by
      funext b
      refine Fin.ext ?_
      match b with
      | ⟨0, _⟩ => rfl
      | ⟨1, _⟩ => exact (Fin.val_eq_zero _).trans rfl
    rw [hi]
    have e : (idx (ix2 i 0)).toInt = ((idx (ix2 i 0)).toNat : ℤ) := BitVec.toInt_eq_toNat_of_lt (by omega)
    show min (idx (ix2 i 0)).toInt.toNat 63 + 0 + 0 = _
    rw [e]
    omega
  | ⟨1, _⟩ =>
    show GatherDims.start _ _ idx 1 + GatherDims.batchCoord _ _ 1 + GatherDims.offCoord _ _ 1 = d.val
    rw [GatherDims.batchCoord_eq_zero _ _ _ List.not_mem_nil]
    unfold GatherDims.start
    rw [dif_neg (by decide)]
    exact Nat.zero_add _
  | ⟨2, _⟩ =>
    show GatherDims.start _ _ idx 2 + GatherDims.batchCoord _ _ 2 + GatherDims.offCoord _ _ 2 = o.val
    rw [GatherDims.batchCoord_eq_zero _ _ _ List.not_mem_nil]
    unfold GatherDims.start
    rw [dif_neg (by decide)]
    exact Nat.zero_add _

/-- The same of the matrices widened, which changes no number, at indices that hold the token's word. -/
theorem matrix_widened (W : FVec Ideal S64x128x256 .bf16) (iv idx : IVec S256x1 32) (i : Fin 256) (d : Fin 128) (o : Fin 256)
    (h : (iv (ix2 i 0)).toNat < 64) (e : idx (ix2 i 0) = iv (ix2 i 0)) :
    Host.gather gather_S64x128x256_S256x1_S256x128x256_12_0_n_n_0_1_1128256 (extf (F := Ideal) .f32 W bitsLt_bf16_f32) idx (ix3 i d o)
      = W (ix3 ⟨(iv (ix2 i 0)).toNat % 64, Nat.mod_lt _ (by decide)⟩ d o) := by
  rw [matrix_of _ _ _ _ _ (by rw [e]; exact h)]
  simp only [e]
  rfl

/-- The reference's count of the earlier tokens of the same expert. -/
theorem count_earlier (iv : Choices) (i : Fin 256) :
    Finset.fold IntOp.addi (0#32) (fun k : Fin 256 => BitVec.setWidth 32 (IntOp.andi (IntOp.cmpi .eq (iv (ix2 k 0)) (iv (ix2 i 0)))
      (IntOp.cmpi .slt (BitVec.ofNat 32 k.val) (BitVec.ofNat 32 i.val)))) Finset.univ = BitVec.ofNat 32 (earlier iv i) := by
  rw [IndicatorCount.fold_addi_setWidth_eq_card]
  unfold earlier
  congr 2
  refine Finset.filter_congr fun k _ => ?_
  rw [cmpi_eq_eq, cmpi_slt_ofNat (w := 32) (show k.val < 2 ^ 31 by omega) (show i.val < 2 ^ 31 by omega), andi_ofBool, ← Bool.decide_and,
    ofBool_decide_eq_one_iff]

/-- The reference's run: its result is the layer of its arguments, which it leaves as they were. -/
theorem reference_run (m : (ℓ : Loc nD τ sig) → Buf (Elt Ideal) ℓ) (ρ : Dev nD → PrngReg)
    (h : ∀ i : Fin 256, ((m (((0 : Dev nD).tc : Thread nD τ).loc main_arg2) : Choices) (ix2 i 0)).toNat < 64) :
    θ_run (defs (F := Ideal)) (onTc (τ := τ) (main (F := Ideal))) ⟨m, fun _ => 0, ρ⟩ fun r =>
      r.2.mem (((0 : Dev nD).tc : Thread nD τ).loc main_v29)
        = (fun j : S256x256.Idx => layer (m (((0 : Dev nD).tc : Thread nD τ).loc main_arg0)) (m (((0 : Dev nD).tc : Thread nD τ).loc main_arg2))
            (m (((0 : Dev nD).tc : Thread nD τ).loc main_arg3)) (j 0) (j 1))
      ∧ r.2.mem (((0 : Dev nD).tc : Thread nD τ).loc main_arg0) = m (((0 : Dev nD).tc : Thread nD τ).loc main_arg0)
      ∧ r.2.mem (((0 : Dev nD).tc : Thread nD τ).loc main_arg1) = m (((0 : Dev nD).tc : Thread nD τ).loc main_arg1)
      ∧ r.2.mem (((0 : Dev nD).tc : Thread nD τ).loc main_arg2) = m (((0 : Dev nD).tc : Thread nD τ).loc main_arg2)
      ∧ r.2.mem (((0 : Dev nD).tc : Thread nD τ).loc main_arg3) = m (((0 : Dev nD).tc : Thread nD τ).loc main_arg3) := by
  refine (θ_run (defs (F := Ideal)) _ _).mono (fun r hr => ⟨(hr 0).1.trans (funext fun j => ?_), (hr 0).2⟩) (Value.run (F := Ideal) m ρ)
  generalize m (((0 : Dev nD).tc : Thread nD τ).loc main_arg0) = x at *
  generalize m (((0 : Dev nD).tc : Thread nD τ).loc main_arg2) = iv at *
  generalize m (((0 : Dev nD).tc : Thread nD τ).loc main_arg3) = W at *
  idx_vars j
  pointwise
  rw [count_earlier, cmpi_slt_ofNat (w := 32) (a := earlier iv j0) (b := 3) (by have := place_le iv (iv (ix2 j0 0)) j0; rw [place_self] at this; omega)
    (by omega), select_decide]
  have nonneg : IntOp.cmpi .slt (iv (ix2 j0 0)) 0#32 = 0#1 := by
    have lt : (iv (ix2 j0 0)).toNat < 64 := h j0
    rw [word_self (iv (ix2 j0 0)), cmpi_slt_ofNat (w := 32) (b := 0) (by omega) (by omega)]
    rfl
  unfold layer
  refine if_congr Iff.rfl (Finset.sum_congr rfl fun d _ => ?_) ?_
  · refine congrArg (@HMul.hMul EReal EReal EReal _ (x (ix2 j0 d))) (matrix_widened W iv _ j0 d j1 (h j0) ?_)
    pointwise
    rw [nonneg]
    rfl
  · show Ideal.ofBits .f32 0#32 = (0 : EReal)
    exact Ideal.ofBits_zero_f32

end Cert.Gather

end
-- ==== Proof.Value.lean ====
/-
  The value claim: on every device the kernel's result is the reference's, when every token's expert is one of the 64.
-/
module

public import proofs.«01_k».proof.Defs
public import proofs.«01_k».proof.Proof.KernelResult
public import proofs.«01_k».proof.Proof.ReferenceValue
public import Idealize.ShloMosaic.Lib.ReduceAll

@[expose] public section

set_option maxRecDepth 16384

noncomputable section

namespace Cert.Gather

open Idealize.ShloMosaic Idealize.SL.Sem

/-- The shapes of the precondition agree, as it is read of the kernel's arguments. -/
theorem range_facts_kernel : Cert.Pre_in_range_KernelIdeal.Facts := ⟨by decide, by decide, by decide⟩

/-- The shapes of the precondition agree, as it is read of the reference's arguments. -/
theorem range_facts_reference : Cert.Pre_in_range_ReferenceIdeal.Facts := ⟨by decide, by decide, by decide⟩

/-- A word that is at least 0 and below 64 as a signed number is below 64. -/
theorem word_range {b : BitVec 32} (h : IntOp.andi (IntOp.cmpi .sge b 0#32) (IntOp.cmpi .slt b 64#32) = 1#1) : b.toNat < 64 := by
  word_cmp at h

attribute [local instance] range_facts_kernel

/-- What the precondition says: every token's expert is one of the 64. -/
theorem in_range_all (x : FVec Ideal Cert.Pre_in_range_KernelIdeal.S256x128 .bf16) (r : FVec Ideal Cert.Pre_in_range_KernelIdeal.S128x64 .bf16)
    (iv : IVec Cert.Pre_in_range_KernelIdeal.S256x1 32) (w : FVec Ideal Cert.Pre_in_range_KernelIdeal.S2x128x256 .bf16)
    (h : Cert.Pre_in_range_KernelIdeal.fn (F := Ideal) x r iv w = fun _ => 1#1) (i : Fin 256) : (iv (ix2 i 0)).toNat < 64 := by
  haveI : Subsingleton Cert.Pre_in_range_KernelIdeal.S_.Idx := ⟨fun a b => funext fun k => k.elim0⟩
  have e := congrFun h (fun k => k.elim0)
  unfold Cert.Pre_in_range_KernelIdeal.fn at e
  have at_i := Host.reduce_andi_all _ _ _ _ _ e (ix2 i 0)
  exact word_range at_i

/-- On every device the kernel's result is the reference's: both are the layer of the whole arguments. -/
theorem same_result : Cert.algebraic_KernelIdeal_ReferenceIdeal_pre_in_range_KernelIdeal (hKernelIdeal := Cert.KernelIdeal.Gen.facts)
    (hReferenceIdeal := Cert.ReferenceIdeal.Gen.facts) (hPre_in_range_KernelIdeal := range_facts_kernel) := by
  intro m g m' g' pre args
  have inside : ∀ i : Fin 256, ((m' (((0 : Dev Cert.ReferenceIdeal.nD).tc : Thread Cert.ReferenceIdeal.nD Cert.ReferenceIdeal.τ).loc
      Cert.ReferenceIdeal.main_arg2) : Choices) (ix2 i 0)).toNat < 64 := fun i => by
    have h := in_range_all _ _ _ _ (pre 0) i
    rw [(args 0).2.2.1] at h
    exact h
  refine ⟨fun j : Cert.ReferenceIdeal.S256x256.Idx => layer (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg2))
    (m' (((0 : Dev Cert.ReferenceIdeal.nD).tc : Thread Cert.ReferenceIdeal.nD Cert.ReferenceIdeal.τ).loc Cert.ReferenceIdeal.main_arg3)) (j 0) (j 1), ?_,
    reference_run m' g' inside⟩
  refine (θ_run (Cert.KernelIdeal.defs (F := Ideal)) _ _).mono (fun r h c => ⟨(h.1 c).2.2.2.2.trans ?_, (h.1 c).1, (h.1 c).2.1, (h.1 c).2.2.1, (h.1 c).2.2.2.1⟩)
    (run_args (F := Ideal) m g)
  rw [result_whole]
  funext j
  rw [ValueIdx.eq_ix2 j]
  exact result_layer m _ _ _ inside (fun c => (args c).1) (fun c => (args c).2.2.1) (fun c => (args c).2.2.2) c (j 0) (j 1)

end Cert.Gather

end
-- ==== Proof.lean ====
/-
  The proof of `Cert.Claim`: the frames of the kernel as printed, of the kernel as idealized and of the reference, and the equality of
  the idealized kernel's result with the reference's.
-/
module

public import proofs.«01_k».proof.Defs
public import proofs.«01_k».proof.Proof.Frames
public import proofs.«01_k».proof.Proof.Value

@[expose] public section

noncomputable section

namespace Cert.Proof

/-- Everything that the certificate claims. -/
theorem claim : Cert.Claim :=
  ⟨Cert.Kernel.Gen.facts, Cert.KernelIdeal.Gen.facts, Cert.ReferenceIdeal.Gen.facts, Cert.Gather.range_facts_kernel,
    Cert.Gather.range_facts_reference, Cert.Gather.frame_kernel, Cert.Gather.frame_ideal, fun m g _ => Cert.Gather.frame_ideal m g trivial,
    Cert.Gather.frame_reference, fun m g _ => Cert.Gather.frame_reference m g trivial, trivial, Cert.Gather.same_result⟩

end Cert.Proof

end
